-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38_6) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v42) = v4 c
          ∧ r.2.mem ((c.tc : Thread Cert.ReferenceIdeal.nD Cert.ReferenceIdeal.τ).loc Cert.ReferenceIdeal.main_v44) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x512x10x128 : Shape := ⟨4, ![4, 512, 10, 128]⟩
abbrev S4x512x10x256 : Shape := ⟨4, ![4, 512, 10, 256]⟩
abbrev S4x512x10 : Shape := ⟨3, ![4, 512, 10]⟩
abbrev S4x10x128x256 : Shape := ⟨4, ![4, 10, 128, 256]⟩
abbrev S_ : Shape := ⟨0, ![]⟩

class Facts : Prop where
  bitsLt_bf16_f32 : FTy.bits .bf16 < FTy.bits .f32
  bcast_S_S4x512x10x128 : S_.BroadcastsInDim S4x512x10x128 (![] : Fin 0 → Fin S4x512x10x128.rank)
  reducesTo_S4x512x10x128_S_d0_1_2_3 : S4x512x10x128.ReducesTo [0, 1, 2, 3] S_
  h_S_ : 0 < S_.numel
  bcast_S_S4x512x10x256 : S_.BroadcastsInDim S4x512x10x256 (![] : Fin 0 → Fin S4x512x10x256.rank)
  reducesTo_S4x512x10x256_S_d0_1_2_3 : S4x512x10x256.ReducesTo [0, 1, 2, 3] S_
  bcast_S_S4x512x10 : S_.BroadcastsInDim S4x512x10 (![] : Fin 0 → Fin S4x512x10.rank)
  reducesTo_S4x512x10_S_d0_1_2 : S4x512x10.ReducesTo [0, 1, 2] S_
  bcast_S_S4x10x128x256 : S_.BroadcastsInDim S4x10x128x256 (![] : Fin 0 → Fin S4x10x128x256.rank)
  reducesTo_S4x10x128x256_S_d0_1_2_3 : S4x10x128x256.ReducesTo [0, 1, 2, 3] S_

variable [Facts]

def fn_part1 {F : FTy → Type} [FloatOps F] (main_arg4 : FVec F S4x512x10 .f32) (main_arg5 : FVec F S4x10x128x256 .f32) (main_v16 : IVec S_ 1) (main_v17 : FVec F S4x512x10 .f32) : IVec S_ 1 :=
  let main_cst_4 : FVec F S_ .f32 := constant S_ .f32 0x7F7FFFFF#32
  let main_v18 : FVec F S4x512x10 .f32 := broadcastInDim S4x512x10 ![] bcast_S_S4x512x10 main_cst_4
  let main_v19 : IVec S4x512x10 1 := cmpf .ole main_v17 main_v18
  let main_c_5 : IVec S_ 1 := constantI S_ 1 1#1
  let main_v20 : IVec S_ 1 := (fun x v => Host.reduce IntOp.andi x v reducesTo_S4x512x10_S_d0_1_2 h_S_) main_v19 main_c_5
  let main_v21 : IVec S_ 1 := andi main_v16 main_v20
  let main_v22 : FVec F S4x512x10 .f32 := Host.absf main_arg4
  let main_cst_6 : FVec F S_ .f32 := constant S_ .f32 0x7F7FFFFF#32
  let main_v23 : FVec F S4x512x10 .f32 := broadcastInDim S4x512x10 ![] bcast_S_S4x512x10 main_cst_6
  let main_v24 : IVec S4x512x10 1 := cmpf .ole main_v22 main_v23
  let main_c_7 : IVec S_ 1 := constantI S_ 1 1#1
  let main_v25 : IVec S_ 1 := (fun x v => Host.reduce IntOp.andi x v reducesTo_S4x512x10_S_d0_1_2 h_S_) main_v24 main_c_7
  let main_v26 : IVec S_ 1 := andi main_v21 main_v25
  let main_v27 : FVec F S4x10x128x256 .f32 := Host.absf main_arg5
  let main_cst_8 : FVec F S_ .f32 := constant S_ .f32 0x7F7FFFFF#32
  let main_v28 : FVec F S4x10x128x256 .f32 := broadcastInDim S4x10x128x256 ![] bcast_S_S4x10x128x256 main_cst_8
  let main_v29 : IVec S4x10x128x256 1 := cmpf .ole main_v27 main_v28
  let main_c_9 : IVec S_ 1 := constantI S_ 1 1#1
  let main_v30 : IVec S_ 1 := (fun x v => Host.reduce IntOp.andi x v reducesTo_S4x10x128x256_S_d0_1_2_3 h_S_) main_v29 main_c_9
  let main_v31 : IVec S_ 1 := andi main_v26 main_v30
  main_v31

def fn {F : FTy → Type} [FloatOps F] (main_arg0 : FVec F S4x512x10x128 .bf16) (main_arg1 : FVec F S4x512x10x128 .bf16) (main_arg2 : FVec F S4x512x10x256 .bf16) (main_arg3 : FVec F S4x512x10 .f32) (main_arg4 : FVec F S4x512x10 .f32) (main_arg5 : FVec F S4x10x128x256 .f32) : IVec S_ 1 :=
  let main_v0 : FVec F S4x512x10x128 .f32 := (extf .f32 · bitsLt_bf16_f32) main_arg0
  let main_v1 : FVec F S4x512x10x128 .f32 := Host.absf main_v0
  let main_cst : FVec F S_ .f32 := constant S_ .f32 0x7F7F0000#32
  let main_v2 : FVec F S4x512x10x128 .f32 := broadcastInDim S4x512x10x128 ![] bcast_S_S4x512x10x128 main_cst
  let main_v3 : IVec S4x512x10x128 1 := cmpf .ole main_v1 main_v2
  let main_c : IVec S_ 1 := constantI S_ 1 1#1
  let main_v4 : IVec S_ 1 := (fun x v => Host.reduce IntOp.andi x v reducesTo_S4x512x10x128_S_d0_1_2_3 h_S_) main_v3 main_c
  let main_v5 : FVec F S4x512x10x128 .f32 := (extf .f32 · bitsLt_bf16_f32) main_arg1
  let main_v6 : FVec F S4x512x10x128 .f32 := Host.absf main_v5
  let main_cst_0 : FVec F S_ .f32 := constant S_ .f32 0x7F7F0000#32
  let main_v7 : FVec F S4x512x10x128 .f32 := broadcastInDim S4x512x10x128 ![] bcast_S_S4x512x10x128 main_cst_0
  let main_v8 : IVec S4x512x10x128 1 := cmpf .ole main_v6 main_v7
  let main_c_1 : IVec S_ 1 := constantI S_ 1 1#1
  let main_v9 : IVec S_ 1 := (fun x v => Host.reduce IntOp.andi x v reducesTo_S4x512x10x128_S_d0_1_2_3 h_S_) main_v8 main_c_1
  let main_v10 : IVec S_ 1 := andi main_v4 main_v9
  let main_v11 : FVec F S4x512x10x256 .f32 := (extf .f32 · bitsLt_bf16_f32) main_arg2
  let main_v12 : FVec F S4x512x10x256 .f32 := Host.absf main_v11
  let main_cst_2 : FVec F S_ .f32 := constant S_ .f32 0x7F7F0000#32
  let main_v13 : FVec F S4x512x10x256 .f32 := broadcastInDim S4x512x10x256 ![] bcast_S_S4x512x10x256 main_cst_2
  let main_v14 : IVec S4x512x10x256 1 := cmpf .ole main_v12 main_v13
  let main_c_3 : IVec S_ 1 := constantI S_ 1 1#1
  let main_v15 : IVec S_ 1 := (fun x v => Host.reduce IntOp.andi x v reducesTo_S4x512x10x256_S_d0_1_2_3 h_S_) main_v14 main_c_3
  let main_v16 : IVec S_ 1 := andi main_v10 main_v15
  let main_v17 : FVec F S4x512x10 .f32 := Host.absf main_arg3
  fn_part1 (F := F) main_arg4 main_arg5 main_v16 main_v17
-- ==== Kernel.lean ====
abbrev S4x512x10x128 : Shape := ⟨4, ![4, 512, 10, 128]⟩
abbrev S4x512x10x256 : Shape := ⟨4, ![4, 512, 10, 256]⟩
abbrev S4x512x10 : Shape := ⟨3, ![4, 512, 10]⟩
abbrev S4x10x128x256 : Shape := ⟨4, ![4, 10, 128, 256]⟩
abbrev S4x10x512x128 : Shape := ⟨4, ![4, 10, 512, 128]⟩
abbrev S4x10x512x256 : Shape := ⟨4, ![4, 10, 512, 256]⟩
abbrev S10x4x512 : Shape := ⟨3, ![10, 4, 512]⟩
abbrev S4x1x512x128 : Shape := ⟨4, ![4, 1, 512, 128]⟩
abbrev S4x1x512x256 : Shape := ⟨4, ![4, 1, 512, 256]⟩
abbrev S1x4x512 : Shape := ⟨3, ![1, 4, 512]⟩
abbrev S4x1x128x256 : Shape := ⟨4, ![4, 1, 128, 256]⟩
abbrev S64x64 : Shape := ⟨2, ![64, 64]⟩
abbrev S1x1x64x128 : Shape := ⟨4, ![1, 1, 64, 128]⟩
abbrev S64x128 : Shape := ⟨2, ![64, 128]⟩
abbrev S64 : Shape := ⟨1, ![64]⟩
abbrev S64x1 : Shape := ⟨2, ![64, 1]⟩
abbrev S1x256 : Shape := ⟨2, ![1, 256]⟩
abbrev S64x256 : Shape := ⟨2, ![64, 256]⟩
abbrev S1x64 : Shape := ⟨2, ![1, 64]⟩
abbrev S1x1x64 : Shape := ⟨3, ![1, 1, 64]⟩
abbrev S1x1 : Shape := ⟨2, ![1, 1]⟩
abbrev S1x1x128x256 : Shape := ⟨4, ![1, 1, 128, 256]⟩
abbrev S128x256 : Shape := ⟨2, ![128, 256]⟩
abbrev S1x1x64x256 : Shape := ⟨4, ![1, 1, 64, 256]⟩

abbrev nBuf : Space → Nat
  | .hbm => 17
  | .vmem => 24
  | .smem => 0
  | _ => 0

abbrev bufTy : (tb : Table) → Fin (tcTables nBuf tb) → BufTy
  | .hbm, ⟨0, _⟩ => ⟨S4x512x10x128, .bf16⟩
  | .hbm, ⟨1, _⟩ => ⟨S4x512x10x128, .bf16⟩
  | .hbm, ⟨2, _⟩ => ⟨S4x512x10x256, .bf16⟩
  | .hbm, ⟨3, _⟩ => ⟨S4x512x10, .f32⟩
  | .hbm, ⟨4, _⟩ => ⟨S4x512x10, .f32⟩
  | .hbm, ⟨5, _⟩ => ⟨S4x10x128x256, .f32⟩
  | .hbm, ⟨6, _⟩ => ⟨S4x10x512x128, .bf16⟩
  | .hbm, ⟨7, _⟩ => ⟨S4x10x512x128, .bf16⟩
  | .hbm, ⟨8, _⟩ => ⟨S4x10x512x256, .bf16⟩
  | .hbm, ⟨9, _⟩ => ⟨S10x4x512, .f32⟩
  | .hbm, ⟨10, _⟩ => ⟨S10x4x512, .f32⟩
  | .hbm, ⟨11, _⟩ => ⟨S4x10x512x256, .bf16⟩
  | .hbm, ⟨12, _⟩ => ⟨S4x10x128x256, .f32⟩
  | .hbm, ⟨13, _⟩ => ⟨S4x10x512x128, .fp8e4m3⟩
  | .hbm, ⟨14, _⟩ => ⟨S10x4x512, .f32⟩
  | .hbm, ⟨15, _⟩ => ⟨S4x10x512x128, .fp8e4m3⟩
  | .hbm, ⟨16, _⟩ => ⟨S10x4x512, .f32⟩
  | .local _ .vmem, ⟨0, _⟩ => ⟨S4x1x512x128, .bf16⟩
  | .local _ .vmem, ⟨1, _⟩ => ⟨S4x1x512x128, .bf16⟩
  | .local _ .vmem, ⟨2, _⟩ => ⟨S4x1x512x128, .bf16⟩
  | .local _ .vmem, ⟨3, _⟩ => ⟨S4x1x512x128, .bf16⟩
  | .local _ .vmem, ⟨4, _⟩ => ⟨S4x1x512x256, .bf16⟩
  | .local _ .vmem, ⟨5, _⟩ => ⟨S4x1x512x256, .bf16⟩
  | .local _ .vmem, ⟨6, _⟩ => ⟨S1x4x512, .f32⟩
  | .local _ .vmem, ⟨7, _⟩ => ⟨S1x4x512, .f32⟩
  | .local _ .vmem, ⟨8, _⟩ => ⟨S1x4x512, .f32⟩
  | .local _ .vmem, ⟨9, _⟩ => ⟨S1x4x512, .f32⟩
  | .local _ .vmem, ⟨10, _⟩ => ⟨S4x1x128x256, .f32⟩
  | .local _ .vmem, ⟨11, _⟩ => ⟨S4x1x128x256, .f32⟩
  | .local _ .vmem, ⟨12, _⟩ => ⟨S4x1x512x256, .bf16⟩
  | .local _ .vmem, ⟨13, _⟩ => ⟨S4x1x512x256, .bf16⟩
  | .local _ .vmem, ⟨14, _⟩ => ⟨S4x1x128x256, .f32⟩
  | .local _ .vmem, ⟨15, _⟩ => ⟨S4x1x128x256, .f32⟩
  | .local _ .vmem, ⟨16, _⟩ => ⟨S4x1x512x128, .fp8e4m3⟩
  | .local _ .vmem, ⟨17, _⟩ => ⟨S4x1x512x128, .fp8e4m3⟩
  | .local _ .vmem, ⟨18, _⟩ => ⟨S1x4x512, .f32⟩
  | .local _ .vmem, ⟨19, _⟩ => ⟨S1x4x512, .f32⟩
  | .local _ .vmem, ⟨20, _⟩ => ⟨S4x1x512x128, .fp8e4m3⟩
  | .local _ .vmem, ⟨21, _⟩ => ⟨S4x1x512x128, .fp8e4m3⟩
  | .local _ .vmem, ⟨22, _⟩ => ⟨S1x4x512, .f32⟩
  | .local _ .vmem, ⟨23, _⟩ => ⟨S1x4x512, .f32⟩
  | _, _ => ⟨S4x512x10x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x512x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1x512x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4x512x10x128 : Shape := ⟨4, ![4, 512, 10, 128]⟩
abbrev S4x512x10x256 : Shape := ⟨4, ![4, 512, 10, 256]⟩
abbrev S4x512x10 : Shape := ⟨3, ![4, 512, 10]⟩
abbrev S4x10x128x256 : Shape := ⟨4, ![4, 10, 128, 256]⟩
abbrev S4x512x10x1 : Shape := ⟨4, ![4, 512, 10, 1]⟩
abbrev S1x1x1x253 : Shape := ⟨4, ![1, 1, 1, 253]⟩
abbrev S4x512x10x253 : Shape := ⟨4, ![4, 512, 10, 253]⟩
abbrev S_ : Shape := ⟨0, ![]⟩
abbrev S512x4x10x128 : Shape := ⟨4, ![512, 4, 10, 128]⟩
abbrev S512x4x10x256 : Shape := ⟨4, ![512, 4, 10, 256]⟩
abbrev S512x4x10 : Shape := ⟨3, ![512, 4, 10]⟩
abbrev S1x4x10x128 : Shape := ⟨4, ![1, 4, 10, 128]⟩
abbrev S4x10x128 : Shape := ⟨3, ![4, 10, 128]⟩
abbrev S1x4x10x256 : Shape := ⟨4, ![1, 4, 10, 256]⟩
abbrev S4x10x256 : Shape := ⟨3, ![4, 10, 256]⟩
abbrev S1x4x10 : Shape := ⟨3, ![1, 4, 10]⟩
abbrev S4x10 : Shape := ⟨2, ![4, 10]⟩
abbrev S4x10x1x1 : Shape := ⟨4, ![4, 10, 1, 1]⟩
abbrev S4x10x128x1 : Shape := ⟨4, ![4, 10, 128, 1]⟩
abbrev S4x10x1 : Shape := ⟨3, ![4, 10, 1]⟩
abbrev S4x10x1x256 : Shape := ⟨4, ![4, 10, 1, 256]⟩
abbrev S4x10x512x256 : Shape := ⟨4, ![4, 10, 512, 256]⟩
abbrev S4x10x512x128 : Shape := ⟨4, ![4, 10, 512, 128]⟩
abbrev S10x4x512 : Shape := ⟨3, ![10, 4, 512]⟩

abbrev nBuf : Space → Nat
  | .hbm => 128
  | .vmem => 8
  | .smem => 0
  | _ => 0

abbrev bufTy : (tb : Table) → Fin (tcTables nBuf tb) → BufTy
  | .hbm, ⟨0, _⟩ => ⟨S4x512x10x128, .bf16⟩
  | .hbm, ⟨1, _⟩ => ⟨S4x512x10x128, .bf16⟩
  | .hbm, ⟨2, _⟩ => ⟨S4x512x10x256, .bf16⟩
  | .hbm, ⟨3, _⟩ => ⟨S4x512x10, .f32⟩
  | .hbm, ⟨4, _⟩ => ⟨S4x512x10, .f32⟩
  | .hbm, ⟨5, _⟩ => ⟨S4x10x128x256, .f32⟩
  | .hbm, ⟨6, _⟩ => ⟨S4x512x10x128, .fp8e4m3⟩
  | .hbm, ⟨7, _⟩ => ⟨S4x512x10x128, .f32⟩
  | .hbm, ⟨8, _⟩ => ⟨S4x512x10, .f32⟩
  | .hbm, ⟨9, _⟩ => ⟨S4x512x10x128, .fp8e4m3⟩
  | .hbm, ⟨10, _⟩ => ⟨S4x512x10x128, .f32⟩
  | .hbm, ⟨11, _⟩ => ⟨S4x512x10, .f32⟩
  | .hbm, ⟨12, _⟩ => ⟨S4x512x10x128, .f32⟩
  | .hbm, ⟨13, _⟩ => ⟨S4x512x10x128, .f32⟩
  | .hbm, ⟨14, _⟩ => ⟨S_, .f32⟩
  | .hbm, ⟨15, _⟩ => ⟨S4x512x10, .f32⟩
  | .hbm, ⟨16, _⟩ => ⟨S_, .f32⟩
  | .hbm, ⟨17, _⟩ => ⟨S4x512x10, .f32⟩
  | .hbm, ⟨18, _⟩ => ⟨S4x512x10, .f32⟩
  | .hbm, ⟨19, _⟩ => ⟨S4x512x10, .f32⟩
  | .hbm, ⟨20, _⟩ => ⟨S_, .f32⟩
  | .hbm, ⟨21, _⟩ => ⟨S4x512x10, .f32⟩
  | .hbm, ⟨22, _⟩ => ⟨S4x512x10, .f32⟩
  | .hbm, ⟨23, _⟩ => ⟨S4x512x10x1, .f32⟩
  | .hbm, ⟨24, _⟩ => ⟨S4x512x10x128, .f32⟩
  | .hbm, ⟨25, _⟩ => ⟨S4x512x10x128, .f32⟩
  | .hbm, ⟨26, _⟩ => ⟨S4x512x10x1, .f32⟩
  | .hbm, ⟨27, _⟩ => ⟨S4x512x10x128, .f32⟩
  | .hbm, ⟨28, _⟩ => ⟨S4x512x10x128, .f32⟩
  | .hbm, ⟨29, _⟩ => ⟨S4x512x10x128, .f32⟩
  | .hbm, ⟨30, _⟩ => ⟨S4x512x10x128, .f32⟩
  | .hbm, ⟨31, _⟩ => ⟨S_, .f32⟩
  | .hbm, ⟨32, _⟩ => ⟨S4x512x10, .f32⟩
  | .hbm, ⟨33, _⟩ => ⟨S_, .f32⟩
  | .hbm, ⟨34, _⟩ => ⟨S4x512x10, .f32⟩
  | .hbm, ⟨35, _⟩ => ⟨S4x512x10, .f32⟩
  | .hbm, ⟨36, _⟩ => ⟨S4x512x10, .f32⟩
  | .hbm, ⟨37, _⟩ => ⟨S_, .f32⟩
  | .hbm, ⟨38, _⟩ => ⟨S4x512x10, .f32⟩
  | .hbm, ⟨39, _⟩ => ⟨S4x512x10, .f32⟩
  | .hbm, ⟨40, _⟩ => ⟨S4x512x10x1, .f32⟩
  | .hbm, ⟨41, _⟩ => ⟨S4x512x10x128, .f32⟩
  | .hbm, ⟨42, _⟩ => ⟨S4x512x10x128, .f32⟩
  | .hbm, ⟨43, _⟩ => ⟨S4x512x10x1, .f32⟩
  | .hbm, ⟨44, _⟩ => ⟨S4x512x10x128, .f32⟩
  | .hbm, ⟨45, _⟩ => ⟨S4x512x10x128, .f32⟩
  | .hbm, ⟨46, _⟩ => ⟨S_, .f32⟩
  | .hbm, ⟨47, _⟩ => ⟨S4x512x10x128, .f32⟩
  | .hbm, ⟨48, _⟩ => ⟨S4x512x10x128, .f32⟩
  | .hbm, ⟨49, _⟩ => ⟨S4x512x10x256, .f32⟩
  | .hbm, ⟨50, _⟩ => ⟨S512x4x10x128, .f32⟩
  | .hbm, ⟨51, _⟩ => ⟨S512x4x10x128, .f32⟩
  | .hbm, ⟨52, _⟩ => ⟨S512x4x10x256, .f32⟩
  | .hbm, ⟨53, _⟩ => ⟨S512x4x10, .f32⟩
  | .hbm, ⟨54, _⟩ => ⟨S512x4x10, .f32⟩
  | .hbm, ⟨55, _⟩ => ⟨S_, .f32⟩
  | .hbm, ⟨56, _⟩ => ⟨S512x4x10x256, .f32⟩
  | .hbm, ⟨57, _⟩ => ⟨S_, .i32⟩
  | .hbm, ⟨58, _⟩ => ⟨S512x4x10x128, .f32⟩
  | .hbm, ⟨59, _⟩ => ⟨S512x4x10x128, .f32⟩
  | .hbm, ⟨60, _⟩ => ⟨S512x4x10x256, .f32⟩
  | .hbm, ⟨61, _⟩ => ⟨S512x4x10, .f32⟩
  | .hbm, ⟨62, _⟩ => ⟨S512x4x10, .f32⟩
  | .hbm, ⟨63, _⟩ => ⟨S_, .i32⟩
  | .hbm, ⟨64, _⟩ => ⟨S4x10x128x256, .f32⟩
  | .hbm, ⟨65, _⟩ => ⟨S512x4x10x256, .f32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x4x10x128, .f32⟩
  | .hbm, ⟨72, _⟩ => ⟨S4x10x128, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1x4x10x128, .f32⟩
  | .hbm, ⟨77, _⟩ => ⟨S4x10x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1x4x10x256, .f32⟩
  | .hbm, ⟨82, _⟩ => ⟨S4x10x256, .f32⟩
  | .hbm, ⟨83, _⟩ => ⟨S_, .i32⟩
  | .hbm, ⟨84, _⟩ => ⟨S_, .i32⟩
  | .hbm, ⟨85, _⟩ => ⟨S1x4x10, .f32⟩
  | .hbm, ⟨86, _⟩ => ⟨S4x10, .f32⟩
  | .hbm, ⟨87, _⟩ => ⟨S_, .i32⟩
  | .hbm, ⟨88, _⟩ => ⟨S_, .i32⟩
  | .hbm, ⟨89, _⟩ => ⟨S1x4x10, .f32⟩
  | .hbm, ⟨90, _⟩ => ⟨S4x10, .f32⟩
  | .hbm, ⟨91, _⟩ => ⟨S4x10, .f32⟩
  | .hbm, ⟨92, _⟩ => ⟨S4x10x1x1, .f32⟩
  | .hbm, ⟨93, _⟩ => ⟨S4x10x128x256, .f32⟩
  | .hbm, ⟨94, _⟩ => ⟨S4x10x128x256, .f32⟩
  | .hbm, ⟨95, _⟩ => ⟨S4x10x128x1, .f32⟩
  | .hbm, ⟨96, _⟩ => ⟨S4x10x128x256, .f32⟩
  | .hbm, ⟨97, _⟩ => ⟨S4x10x128x256, .f32⟩
  | .hbm, ⟨98, _⟩ => ⟨S_, .f32⟩
  | .hbm, ⟨99, _⟩ => ⟨S4x10x256, .f32⟩
  | .hbm, ⟨100, _⟩ => ⟨S4x10x1, .f32⟩
  | .hbm, ⟨101, _⟩ => ⟨S4x10x256, .f32⟩
  | .hbm, ⟨102, _⟩ => ⟨S4x10x256, .f32⟩
  | .hbm, ⟨103, _⟩ => ⟨S4x10x256, .f32⟩
  | .hbm, ⟨104, _⟩ => ⟨S4x10x128x1, .f32⟩
  | .hbm, ⟨105, _⟩ => ⟨S4x10x1x256, .f32⟩
  | .hbm, ⟨106, _⟩ => ⟨S4x10x128x256, .f32⟩
  | .hbm, ⟨107, _⟩ => ⟨S4x10x128x256, .f32⟩
  | .hbm, ⟨108, _⟩ => ⟨S4x10x128x256, .f32⟩
  | .hbm, ⟨109, _⟩ => ⟨S4x10x128x256, .f32⟩
  | .hbm, ⟨110, _⟩ => ⟨S4x10x128x1, .f32⟩
  | .hbm, ⟨111, _⟩ => ⟨S4x10x128x256, .f32⟩
  | .hbm, ⟨112, _⟩ => ⟨S4x10x128x256, .f32⟩
  | .hbm, ⟨113, _⟩ => ⟨S_, .f32⟩
  | .hbm, ⟨114, _⟩ => ⟨S4x10x256, .f32⟩
  | .hbm, ⟨115, _⟩ => ⟨S1x4x10x256, .f32⟩
  | .hbm, ⟨116, _⟩ => ⟨S_, .i32⟩
  | .hbm, ⟨117, _⟩ => ⟨S_, .i32⟩
  | .hbm, ⟨118, _⟩ => ⟨S_, .i32⟩
  | .hbm, ⟨119, _⟩ => ⟨S512x4x10x256, .f32⟩
  | .hbm, ⟨120, _⟩ => ⟨S_, .i32⟩
  | .hbm, ⟨121, _⟩ => ⟨S_, .i32⟩
  | .hbm, ⟨122, _⟩ => ⟨S4x10x512x256, .f32⟩
  | .hbm, ⟨123, _⟩ => ⟨S4x10x512x256, .bf16⟩
  | .hbm, ⟨124, _⟩ => ⟨S4x10x512x128, .fp8e4m3⟩
  | .hbm, ⟨125, _⟩ => ⟨S4x10x512x128, .fp8e4m3⟩
  | .hbm, ⟨126, _⟩ => ⟨S10x4x512, .f32⟩
  | .hbm, ⟨127, _⟩ => ⟨S10x4x512, .f32⟩
  | .local _ .vmem, ⟨0, _⟩ => ⟨S4x512x10x128, .bf16⟩
  | .local _ .vmem, ⟨1, _⟩ => ⟨S4x512x10x128, .bf16⟩
  | .local _ .vmem, ⟨2, _⟩ => ⟨S4x512x10x128, .fp8e4m3⟩
  | .local _ .vmem, ⟨3, _⟩ => ⟨S4x512x10x128, .f32⟩
  | .local _ .vmem, ⟨4, _⟩ => ⟨S4x512x10, .f32⟩
  | .local _ .vmem, ⟨5, _⟩ => ⟨S4x512x10x128, .fp8e4m3⟩
  | .local _ .vmem, ⟨6, _⟩ => ⟨S4x512x10x128, .f32⟩
  | .local _ .vmem, ⟨7, _⟩ => ⟨S4x512x10, .f32⟩
  | _, _ => ⟨S4x512x10x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_c : Ref sig .tc := ⟨.hbm, 57, rfl⟩
abbrev main_v38_0 : Ref sig .tc := ⟨.hbm, 58, rfl⟩
abbrev main_v38_1 : Ref sig .tc := ⟨.hbm, 59, rfl⟩
abbrev main_v38_2 : Ref sig .tc := ⟨.hbm, 60, rfl⟩
abbrev main_v38_3 : Ref sig .tc := ⟨.hbm, 61, rfl⟩
abbrev main_v38_4 : Ref sig .tc := ⟨.hbm, 62, rfl⟩
abbrev main_v38_5 : Ref sig .tc := ⟨.hbm, 63, rfl⟩
abbrev main_v38_6 : Ref sig .tc := ⟨.hbm, 64, rfl⟩
abbrev main_v38_7 : Ref sig .tc := ⟨.hbm, 65, rfl⟩
abbrev main_while0c_c_14 : Ref sig .tc := ⟨.hbm, 66, rfl⟩
abbrev main_while0c_v45 : Ref sig .tc := ⟨.hbm, 67, rfl⟩
abbrev main_while0b_call0_c : Ref sig .tc := ⟨.hbm, 68, rfl⟩
abbrev main_while0b_call0_c_0 : Ref sig .tc := ⟨.hbm, 69, rfl⟩
abbrev main_while0b_call0_c_1 : Ref sig .tc := ⟨.hbm, 70, rfl⟩
abbrev main_while0b_call0_v0 : Ref sig .tc := ⟨.hbm, 71, rfl⟩
abbrev main_while0b_v45 : Ref sig .tc := ⟨.hbm, 72, rfl⟩
abbrev main_while0b_call1_c : Ref sig .tc := ⟨.hbm, 73, rfl⟩
abbrev main_while0b_call1_c_0 : Ref sig .tc := ⟨.hbm, 74, rfl⟩
abbrev main_while0b_call1_c_1 : Ref sig .tc := ⟨.hbm, 75, rfl⟩
abbrev main_while0b_call1_v0 : Ref sig .tc := ⟨.hbm, 76, rfl⟩
abbrev main_while0b_v46 : Ref sig .tc := ⟨.hbm, 77, rfl⟩
abbrev main_while0b_call2_c : Ref sig .tc := ⟨.hbm, 78, rfl⟩
abbrev main_while0b_call2_c_0 : Ref sig .tc := ⟨.hbm, 79, rfl⟩
abbrev main_while0b_call2_c_1 : Ref sig .tc := ⟨.hbm, 80, rfl⟩
abbrev main_while0b_call2_v0 : Ref sig .tc := ⟨.hbm, 81, rfl⟩
abbrev main_while0b_v47 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_v0 : Ref sig .tc := ⟨.hbm, 85, rfl⟩
abbrev main_while0b_v48 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_call4_v0 : Ref sig .tc := ⟨.hbm, 89, rfl⟩
abbrev main_while0b_v49 : Ref sig .tc := ⟨.hbm, 90, rfl⟩
abbrev main_while0b_v50 : Ref sig .tc := ⟨.hbm, 91, rfl⟩
abbrev main_while0b_v51 : Ref sig .tc := ⟨.hbm, 92, rfl⟩
abbrev main_while0b_v52 : Ref sig .tc := ⟨.hbm, 93, rfl⟩
abbrev main_while0b_v53 : Ref sig .tc := ⟨.hbm, 94, rfl⟩
abbrev main_while0b_v54 : Ref sig .tc := ⟨.hbm, 95, rfl⟩
abbrev main_while0b_v55 : Ref sig .tc := ⟨.hbm, 96, rfl⟩
abbrev main_while0b_v56 : Ref sig .tc := ⟨.hbm, 97, rfl⟩
abbrev main_while0b_cst_14 : Ref sig .tc := ⟨.hbm, 98, rfl⟩
abbrev main_while0b_v57 : Ref sig .tc := ⟨.hbm, 99, rfl⟩
abbrev main_while0b_v58 : Ref sig .tc := ⟨.hbm, 100, rfl⟩
abbrev main_while0b_v59 : Ref sig .tc := ⟨.hbm, 101, rfl⟩
abbrev main_while0b_v60 : Ref sig .tc := ⟨.hbm, 102, rfl⟩
abbrev main_while0b_v61 : Ref sig .tc := ⟨.hbm, 103, rfl⟩
abbrev main_while0b_v62 : Ref sig .tc := ⟨.hbm, 104, rfl⟩
abbrev main_while0b_v63 : Ref sig .tc := ⟨.hbm, 105, rfl⟩
abbrev main_while0b_v64 : Ref sig .tc := ⟨.hbm, 106, rfl⟩
abbrev main_while0b_v65 : Ref sig .tc := ⟨.hbm, 107, rfl⟩
abbrev main_while0b_v66 : Ref sig .tc := ⟨.hbm, 108, rfl⟩
abbrev main_while0b_v67 : Ref sig .tc := ⟨.hbm, 109, rfl⟩
abbrev main_while0b_v68 : Ref sig .tc := ⟨.hbm, 110, rfl⟩
abbrev main_while0b_v69 : Ref sig .tc := ⟨.hbm, 111, rfl⟩
abbrev main_while0b_v70 : Ref sig .tc := ⟨.hbm, 112, rfl⟩
abbrev main_while0b_cst_15 : Ref sig .tc := ⟨.hbm, 113, rfl⟩
abbrev main_while0b_v71 : Ref sig .tc := ⟨.hbm, 114, rfl⟩
abbrev main_while0b_call5_v0 : Ref sig .tc := ⟨.hbm, 115, rfl⟩
abbrev main_while0b_call5_c : Ref sig .tc := ⟨.hbm, 116, rfl⟩
abbrev main_while0b_call5_c_0 : Ref sig .tc := ⟨.hbm, 117, rfl⟩
abbrev main_while0b_call5_c_1 : Ref sig .tc := ⟨.hbm, 118, rfl⟩
abbrev main_while0b_v72 : Ref sig .tc := ⟨.hbm, 119, rfl⟩
abbrev main_while0b_c_16 : Ref sig .tc := ⟨.hbm, 120, rfl⟩
abbrev main_while0b_v73 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev main_while0_count : Scf.Loop 32 := ⟨0#32, 512#32, 1#32⟩

abbrev grid0 : Pipeline.Grid := .none

abbrev stage0_0 : Fin 1 → Memref sig .tc .vmem S4x512x10x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x10x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x10x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x10x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512x10x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512x10x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x512x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Quant.lean ====
/-
The quantiser's scale over the reals: the least power of two above a row's largest code, found two ways.
-/
module

public import Idealize.ShloMosaic.Lib.Pointwise
public import Mathlib.Algebra.Order.Archimedean.Basic
public import Mathlib.Tactic.NormNum
public import Mathlib.Tactic.Linarith
public import Mathlib.Tactic.Ring
public import Mathlib.Tactic.FieldSimp

@[expose] public section

set_option maxRecDepth 16384

noncomputable section

namespace Cert.Delta

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `n` of the powers `2 ^ (m - 127)`, `1 ≤ m ≤ 254`, are at most `y`. -/
def Level (y : ℝ) (n : ℕ) : Prop :=
  n ≤ 252 ∧ ∀ m : ℕ, 1 ≤ m → m ≤ 254 → ((2 : ℝ) ^ ((m : ℤ) - 127) ≤ y ↔ m ≤ n)

theorem exists_level {y : ℝ} (h0 : 0 ≤ y) (h : y < (2 : ℝ) ^ (126 : ℤ)) : ∃ n, Level y n := by
  by_cases hs : y < (2 : ℝ) ^ (-126 : ℤ)
  · refine ⟨0, by omega, fun m h1 _ => ⟨fun hm => ?_, fun hm => by omega⟩⟩
    exact absurd (lt_of_le_of_lt ((zpow_right_strictMono₀ (one_lt_two (α := ℝ))).monotone (by omega)) (lt_of_le_of_lt hm hs)) (lt_irrefl _)
  · rw [not_lt] at hs
    obtain ⟨e, he1, he2⟩ := exists_mem_Ico_zpow (lt_of_lt_of_le (by positivity) hs) (one_lt_two (α := ℝ))
    have hm := zpow_right_strictMono₀ (one_lt_two (α := ℝ))
    have hl : -126 < e + 1 := hm.lt_iff_lt.1 (lt_of_le_of_lt hs he2)
    have hu : e < 126 := hm.lt_iff_lt.1 (lt_of_le_of_lt he1 h)
    refine ⟨(e + 127).toNat, by omega, fun m h1 h2 => ⟨fun hy => ?_, fun hy => ?_⟩⟩
    · have := hm.lt_iff_lt.1 (lt_of_le_of_lt hy he2)
      omega
    · exact (hm.monotone (by omega)).trans he1

/-- The scale at a level. -/
def power (n : ℕ) : ℝ := if n = 0 then 1 else (2 : ℝ) ^ ((n : ℤ) - 126)

theorem power_pos (n : ℕ) : 0 < power n := by
  unfold power
  split_ifs
  · exact one_pos
  · positivity

/-- The float with exponent field `n` and nothing else. -/
theorem ofBits_power (n : ℕ) (h1 : 1 ≤ n) (h2 : n ≤ 254) :
    Ideal.ofBits .f32 (BitVec.ofNat 32 (n * 8388608)) = (((2 : ℝ) ^ ((n : ℤ) - 127) : ℝ) : EReal) := by
  have hn : n < 255 := by omega
  have he : ∀ n : Fin 256, (BitVec.extractLsb' 23 8 (BitVec.ofNat 32 (n.val * 8388608))).toNat = n.val
      ∧ (BitVec.extractLsb' 0 23 (BitVec.ofNat 32 (n.val * 8388608))).toNat = 0
      ∧ (BitVec.extractLsb' 31 1 (BitVec.ofNat 32 (n.val * 8388608))) = 0#1 := by decide +kernel
  obtain ⟨e1, e2, e3⟩ := he ⟨n, by omega⟩
  simp only [Ideal.ofBits, Ideal.ieee, e1, e2, show 8 + 23 = 31 from rfl, e3]
  rw [if_neg (by omega), if_neg (by omega), if_neg (by decide)]
  refine congrArg Real.toEReal ?_
  rw [show ((n : ℤ)) - (2 ^ (8 - 1) - 1) - ((23 : ℕ) : ℤ) = ((n : ℤ) - 127) - 23 by norm_num, zpow_sub₀ two_ne_zero]
  norm_num
  field_simp

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

/-- Whether the number `m` counts at level `n`. -/
def counted (n m : ℕ) : BitVec 1 :=
  IntOp.andi (IntOp.cmpi .sgt (BitVec.ofNat 32 m) 0#32) (BitVec.ofBool (decide (m ≤ n)))

theorem counted_eq {y : ℝ} {n : ℕ} (h : Level y n) (m : Fin 256) :
    IntOp.andi (IntOp.cmpi .sgt (BitVec.ofNat 32 m.val) 0#32)
      (BitVec.ofBool (decide (Ideal.ofBits .f32 (IntOp.shli .vector (BitVec.ofNat 32 m.val) 23#32) ≤ (y : EReal)))) = counted n m := by
  have hs : ∀ m : Fin 256, IntOp.shli .vector (BitVec.ofNat 32 m.val) 23#32 = BitVec.ofNat 32 (m.val * 8388608) := by decide +kernel
  have hz : ∀ b : BitVec 1, IntOp.andi (IntOp.cmpi .sgt (BitVec.ofNat 32 0) 0#32) b = 0#1 := by decide
  rw [hs, counted]
  by_cases h0 : m.val = 0
  · rw [h0, hz, hz]
  by_cases h1 : m.val = 255
  · rw [h1, show BitVec.ofNat 32 (255 * 8388608) = 0x7F800000#32 from by decide, ofBits_top]
    have := h.1
    rw [decide_eq_false (by simp), decide_eq_false (by omega)]
  · have := m.isLt
    rw [ofBits_power _ (by omega) (by omega), decide_eq_decide.2 (EReal.coe_le_coe_iff.trans (h.2 m.val (by omega) (by omega)))]

/-- The exponent field at a level, as the kernel counts it. -/
theorem field_eq {y : ℝ} {n : ℕ} (h : Level y n) :
    Finset.fold IntOp.addi 0#32 (fun m : Fin 256 => Scalar.select (IntOp.andi (IntOp.cmpi .sgt (BitVec.ofNat 32 m.val) 0#32)
      (BitVec.ofBool (decide (Ideal.ofBits .f32 (IntOp.shli .vector (BitVec.ofNat 32 m.val) 23#32) ≤ (y : EReal))))) 8388608#32 0#32)
      Finset.univ = BitVec.ofNat 32 (n * 8388608) := by
  have hf : ∀ n : Fin 253, Finset.fold IntOp.addi 0#32 (fun m : Fin 256 => Scalar.select (counted n.val m.val) 8388608#32 0#32) Finset.univ
      = BitVec.ofNat 32 (n.val * 8388608) := by decide +kernel
  rw [← hf ⟨n, by have := h.1; omega⟩]
  congr 1
  funext m
  rw [counted_eq h]

theorem sbits_eq {n : ℕ} (h : n ≤ 252) :
    Scalar.select (IntOp.cmpi .eq (BitVec.ofNat 32 (n * 8388608)) 0#32) 1065353216#32 (IntOp.addi (BitVec.ofNat 32 (n * 8388608)) 8388608#32)
      = BitVec.ofNat 32 ((if n = 0 then 127 else n + 1) * 8388608) := by
  have hf : ∀ n : Fin 253, Scalar.select (IntOp.cmpi .eq (BitVec.ofNat 32 (n.val * 8388608)) 0#32) 1065353216#32
      (IntOp.addi (BitVec.ofNat 32 (n.val * 8388608)) 8388608#32) = BitVec.ofNat 32 ((if n.val = 0 then 127 else n.val + 1) * 8388608) := by
    decide +kernel
  exact hf ⟨n, by omega⟩

theorem ubits_eq {n : ℕ} (h : n ≤ 252) :
    IntOp.subi 2130706432#32 (BitVec.ofNat 32 ((if n = 0 then 127 else n + 1) * 8388608))
      = BitVec.ofNat 32 ((if n = 0 then 127 else 253 - n) * 8388608) := by
  have hf : ∀ n : Fin 253, IntOp.subi 2130706432#32 (BitVec.ofNat 32 ((if n.val = 0 then 127 else n.val + 1) * 8388608))
      = BitVec.ofNat 32 ((if n.val = 0 then 127 else 253 - n.val) * 8388608) := by
    decide +kernel
  exact hf ⟨n, by omega⟩

theorem scale_eq {n : ℕ} (h : n ≤ 252) :
    Ideal.ofBits .f32 (BitVec.ofNat 32 ((if n = 0 then 127 else n + 1) * 8388608)) = (power n : EReal) := by
  unfold power
  split_ifs with h0
  · rw [ofBits_power _ (by omega) (by omega)]
    norm_num
  · rw [ofBits_power _ (by omega) (by omega)]
    congr 2
    push_cast
    ring

theorem unscale_eq {n : ℕ} (h : n ≤ 252) :
    Ideal.ofBits .f32 (BitVec.ofNat 32 ((if n = 0 then 127 else 253 - n) * 8388608)) = ((power n)⁻¹ : ℝ) := by
  unfold power
  split_ifs with h0
  · rw [ofBits_power _ (by omega) (by omega)]
    norm_num
  · rw [ofBits_power _ (by omega) (by omega), ← zpow_neg]
    congr 2
    omega

end Cert.Delta
-- ==== Proof.Row.lean ====
/-
A row of keys or queries over the reals: its scale, its codes, one over its length. The two ways the programs find the scale agree.
-/
module

public import proofs.«01_k».proof.Proof.Quant

@[expose] public section

set_option maxRecDepth 16384

noncomputable section

namespace Cert.Delta

open Idealize.ShloMosaic

/-! The constants of both programs. -/

/-- One over the largest code, as rounded. -/
def recip : ℝ := 9586981 / 4294967296
/-- What is added under the root. -/
def eps : ℝ := 8796093 / 8796093022208
/-- The queries' factor. -/
def dsc : ℝ := 11863283 / 134217728

theorem ofBits_recip : Ideal.ofBits .f32 0x3B124925#32 = (recip : EReal) := by
  simp [Ideal.ofBits, Ideal.ieee, recip, -EReal.coe_mul]; norm_num
theorem ofBits_eps : Ideal.ofBits .f32 0x358637BD#32 = (eps : EReal) := by
  simp [Ideal.ofBits, Ideal.ieee, eps, -EReal.coe_mul]; norm_num
theorem ofBits_dsc : Ideal.ofBits .f32 0x3DB504F3#32 = (dsc : EReal) := by
  simp [Ideal.ofBits, Ideal.ieee, dsc, -EReal.coe_mul]; norm_num
theorem ofBits_top_code : Ideal.ofBits .f32 0x43E00000#32 = ((448 : ℝ) : EReal) := by
  simp [Ideal.ofBits, Ideal.ieee, -EReal.coe_mul]; norm_num
theorem ofBits_low_code : Ideal.ofBits .f32 0xC3E00000#32 = ((-448 : ℝ) : EReal) := by
  simp [Ideal.ofBits, Ideal.ieee, -EReal.coe_mul]; norm_num

theorem eps_pos : 0 < eps := by norm_num [eps]

variable (f : Fin 128 → ℝ)

/-- The largest magnitude over the largest code. -/
def reach : EReal := Finset.fold max (Ideal.ofBits .f32 0xFF800000#32)
  (fun d => FloatOps.absf (F := Ideal) (φ := .f32) ((f d : ℝ) : EReal)) Finset.univ * Ideal.ofBits .f32 0x3B124925#32

/-- The row is bounded. -/
def Bounded : Prop := ∀ d, |f d| ≤ (2 : ℝ) ^ (128 : ℤ)

variable {f}

theorem exists_reach (h : Bounded f) : ∃ (y : ℝ) (n : ℕ), reach f = (y : EReal) ∧ Level y n := by
  have ha : ∀ d, FloatOps.absf (F := Ideal) (φ := .f32) ((f d : ℝ) : EReal) = ((|f d| : ℝ) : EReal) := fun d => by
    show max ((f d : ℝ) : EReal) (-((f d : ℝ) : EReal)) = _
    rw [← EReal.coe_neg, abs]
    exact (EReal.coe_strictMono.monotone.map_max).symm
  have h1 : Finset.fold max (Ideal.ofBits .f32 0xFF800000#32)
      (fun d => FloatOps.absf (F := Ideal) (φ := .f32) ((f d : ℝ) : EReal)) Finset.univ ≤ (((2 : ℝ) ^ (128 : ℤ) : ℝ) : EReal) := by
    rw [Finset.fold_max_le]
    refine ⟨by rw [ofBits_bot]; exact bot_le, fun d _ => ?_⟩
    rw [ha]
    exact EReal.coe_le_coe_iff.2 (h d)
  have h0 : ((0 : ℝ) : EReal) ≤ Finset.fold max (Ideal.ofBits .f32 0xFF800000#32)
      (fun d => FloatOps.absf (F := Ideal) (φ := .f32) ((f d : ℝ) : EReal)) Finset.univ := by
    rw [Finset.le_fold_max]
    refine .inr ⟨0, Finset.mem_univ _, ?_⟩
    rw [ha]
    exact EReal.coe_le_coe_iff.2 (abs_nonneg _)
  unfold reach
  generalize Finset.fold max (Ideal.ofBits .f32 0xFF800000#32)
      (fun d => FloatOps.absf (F := Ideal) (φ := .f32) ((f d : ℝ) : EReal)) Finset.univ = z at h0 h1
  change EReal at z
  induction z using EReal.rec with
  | bot => exact absurd h0 (by simp)
  | top => exact absurd h1 (not_le.2 (EReal.coe_lt_top _))
  | coe z =>
    rw [EReal.coe_le_coe_iff] at h0 h1
    obtain ⟨n, hn⟩ := exists_level (y := z * recip) (mul_nonneg h0 (by norm_num [recip])) (by
      refine lt_of_le_of_lt (mul_le_mul_of_nonneg_right h1 (by norm_num [recip])) ?_
      norm_num [recip])
    exact ⟨z * recip, n, by rw [ofBits_recip, EReal.coe_mul], hn⟩

variable (f)

open Classical in
/-- The level of the row. -/
def level : ℕ := if h : Bounded f then (exists_reach h).choose_spec.choose else 0

variable {f}

theorem level_spec (h : Bounded f) : ∃ y : ℝ, reach f = (y : EReal) ∧ Level y (level f) := by
  refine ⟨(exists_reach h).choose, ?_⟩
  unfold level
  rw [dif_pos h]
  exact (exists_reach h).choose_spec.choose_spec

variable (f)

/-- The row's scale. -/
def scl : ℝ := power (level f)

/-- The row's codes. -/
def code (d : Fin 128) : ℝ := min 448 (max (-448) (f d * (scl f)⁻¹))

/-- One over the row's length. -/
def rlen : ℝ := (Real.sqrt (∑ d, f d * f d + eps))⁻¹

variable {f}

theorem sum_pos : 0 < ∑ d, f d * f d + eps :=
  add_pos_of_nonneg_of_pos (Finset.sum_nonneg fun d _ => mul_self_nonneg _) eps_pos

theorem rsqrt_eq : Ideal.rsqrt (∑ d, ((f d : ℝ) : EReal) * ((f d : ℝ) : EReal) + Ideal.ofBits .f32 0x358637BD#32) = (rlen f : EReal) := by
  simp only [ofBits_eps, ← EReal.coe_mul, ← coe_sum, ← EReal.coe_add]
  rw [Ideal.rsqrt_coe, if_neg (not_lt.2 sum_pos.le), if_neg sum_pos.ne', rlen]

theorem div_sqrt_eq : Ideal.div 1 (Ideal.sqrt (∑ d, ((f d : ℝ) : EReal) * ((f d : ℝ) : EReal) + Ideal.ofBits .f32 0x358637BD#32))
    = (rlen f : EReal) := by
  simp only [ofBits_eps, ← EReal.coe_mul, ← coe_sum, ← EReal.coe_add]
  rw [Ideal.sqrt_coe, if_neg (not_lt.2 sum_pos.le), Ideal.div_coe (Real.sqrt_pos.2 sum_pos).ne', one_mul, one_div, rlen]

theorem div_scl : Ideal.div 1 (scl f : EReal) = (((scl f)⁻¹ : ℝ) : EReal) := by
  rw [Ideal.div_coe (show scl f ≠ 0 from (power_pos _).ne'), one_mul, one_div]

theorem code_coe (d : Fin 128) : min (Ideal.ofBits .f32 0x43E00000#32) (max (Ideal.ofBits .f32 0xC3E00000#32)
    ((f d : EReal) * (((scl f)⁻¹ : ℝ) : EReal))) = (code f d : EReal) := by
  rw [ofBits_top_code, ofBits_low_code, ← EReal.coe_mul, code, EReal.coe_strictMono.monotone.map_min, EReal.coe_strictMono.monotone.map_max]

/-- The least power of two above, found as a minimum. -/
theorem least_eq (h : Bounded f) :
    (if reach f < Ideal.ofBits .f32 0x00800000#32 then (1 : EReal)
      else Finset.fold min (Ideal.ofBits .f32 0x7F800000#32) (fun j : Fin 253 =>
        if reach f < FloatOps.exp2 (F := Ideal) (φ := .f32) (FloatOps.sitofp .f32 (IntOp.subi (BitVec.ofNat 32 j.val) 125#32))
        then FloatOps.exp2 (F := Ideal) (φ := .f32) (FloatOps.sitofp .f32 (IntOp.subi (BitVec.ofNat 32 j.val) 125#32))
        else Ideal.ofBits .f32 0x7F800000#32) Finset.univ) = (scl f : EReal) := by
  obtain ⟨y, hy, hn, hl⟩ := level_spec h
  have hp : ∀ j : Fin 253, FloatOps.exp2 (F := Ideal) (φ := .f32) (FloatOps.sitofp .f32 (IntOp.subi (BitVec.ofNat 32 j.val) 125#32))
      = (((2 : ℝ) ^ ((j.val : ℤ) - 125) : ℝ) : EReal) := fun j => by
    have hj : ∀ j : Fin 253, (IntOp.subi (BitVec.ofNat 32 j.val) 125#32).toInt = (j.val : ℤ) - 125 := by decide +kernel
    show Ideal.exp2 (((IntOp.subi (BitVec.ofNat 32 j.val) 125#32).toInt : ℝ) : EReal) = _
    rw [hj, Ideal.exp2_coe]
    exact congrArg Real.toEReal (Real.rpow_intCast 2 _)
  have hm := (zpow_right_strictMono₀ (one_lt_two (α := ℝ))).monotone
  simp only [hp, hy, ofBits_top, show Ideal.ofBits .f32 0x00800000#32 = (((2 : ℝ) ^ (((1 : ℕ) : ℤ) - 127) : ℝ) : EReal) from
    ofBits_power 1 (by omega) (by omega)]
  generalize hN : level f = n at hn hl
  have h1 := hl 1 (by omega) (by omega)
  unfold scl power
  rw [hN]
  by_cases h0 : n = 0
  · rw [if_pos (EReal.coe_lt_coe_iff.2 (not_le.1 (by rw [h1]; omega))), if_pos h0]
    rfl
  · rw [if_neg (by rw [EReal.coe_lt_coe_iff, not_lt, h1]; omega), if_neg h0]
    have hab : y < (2 : ℝ) ^ ((n : ℤ) - 126) := by
      have := hl (n + 1) (by omega) (by omega)
      rw [← not_le, show (n : ℤ) - 126 = ((n + 1 : ℕ) : ℤ) - 127 by push_cast; ring, this]
      omega
    refine le_antisymm ?_ ?_
    · rw [Finset.fold_min_le]
      refine .inr ⟨⟨n - 1, by omega⟩, Finset.mem_univ _, ?_⟩
      have he : (((n - 1 : ℕ) : ℤ) - 125) = (n : ℤ) - 126 := by omega
      simp only [he]
      rw [if_pos (EReal.coe_lt_coe_iff.2 hab)]
    · rw [Finset.le_fold_min]
      refine ⟨le_top, fun j _ => ?_⟩
      split_ifs with hj
      · rw [EReal.coe_lt_coe_iff] at hj
        rw [EReal.coe_le_coe_iff]
        by_contra hc
        have hlt : (j.val : ℤ) - 125 < (n : ℤ) - 126 := by
          by_contra hh
          exact hc (hm (by omega))
        have := (hl (j.val + 2) (by omega) (by omega)).2 (by omega)
        rw [show ((j.val + 2 : ℕ) : ℤ) - 127 = (j.val : ℤ) - 125 by push_cast; ring] at this
        exact absurd hj (not_lt.2 this)
      · exact le_top

end Cert.Delta
-- ==== Proof.Inverse.lean ====
/-
  Block doubling: the inverse of a unit lower triangular matrix, the blocks on the diagonal doubled at each step.
  Over the reals and matrices of any size.
-/
module

public import Mathlib.Data.Matrix.Mul
public import Mathlib.Data.Real.Basic
public import Mathlib.Tactic.Ring
public import Mathlib.Tactic.Abel
public import Mathlib.Tactic.Common

@[expose] public section

namespace Cert.Delta

variable {n : ℕ}

/-- The part of `A` one doubling step adds: the lower left quarter of every block of size `2 b`. -/
def quarter (b : ℕ) (A : Matrix (Fin n) (Fin n) ℝ) : Matrix (Fin n) (Fin n) ℝ := fun i j =>
  if i.val / (2 * b) = j.val / (2 * b) ∧ i.val / b % 2 = 1 ∧ j.val / b % 2 = 0 then A i j else 0

/-- The unit lower triangular matrix of which only the diagonal blocks of size `b` are kept. -/
def blocks (b : ℕ) (A : Matrix (Fin n) (Fin n) ℝ) : Matrix (Fin n) (Fin n) ℝ := fun i j =>
  (if i = j then 1 else 0) + if i.val / b = j.val / b then A i j else 0

/-- One doubling step. -/
def double (b : ℕ) (A T : Matrix (Fin n) (Fin n) ℝ) : Matrix (Fin n) (Fin n) ℝ :=
  T - T * quarter b A * T

/-- `T` inverts the diagonal blocks of size `b` from the left and is zero outside of them. -/
structure Inverts (b : ℕ) (A T : Matrix (Fin n) (Fin n) ℝ) : Prop where
  left : T * blocks b A = 1
  diag : ∀ i j : Fin n, i.val / b ≠ j.val / b → T i j = 0

theorem half_of_eq {b i j : ℕ} (h : i / b = j / b) : i / (2 * b) = j / (2 * b) := by
  rw [Nat.mul_comm, ← Nat.div_div_eq_div_mul, ← Nat.div_div_eq_div_mul, h]

/-- Before the first step: the identity inverts blocks of size one. -/
theorem Inverts.one {A : Matrix (Fin n) (Fin n) ℝ} (hA : ∀ i j : Fin n, i ≤ j → A i j = 0) :
    Inverts 1 A 1 := by
  refine ⟨?_, fun i j h => Matrix.one_apply_ne fun e => h (by rw [e])⟩
  rw [Matrix.one_mul]
  ext i j
  simp only [blocks, Nat.div_one, Matrix.one_apply, Fin.val_inj]
  by_cases h : i = j
  · simp [h, hA]
  · simp [h]

/-- The blocks of size `2 b` are the blocks of size `b` and the quarters below them. -/
theorem blocks_double {b : ℕ} (hb : 0 < b) {A : Matrix (Fin n) (Fin n) ℝ}
    (hA : ∀ i j : Fin n, i ≤ j → A i j = 0) : blocks (2 * b) A = blocks b A + quarter b A := by
  ext i j
  simp only [blocks, quarter, Matrix.add_apply, add_assoc, add_right_inj]
  by_cases hij : i ≤ j
  · simp [hA i j hij]
  · have hji : j.val ≤ i.val := by
      have := not_le.mp hij
      exact le_of_lt this
    have hle : j.val / b ≤ i.val / b := Nat.div_le_div_right hji
    have e1 : i.val / (2 * b) = i.val / b / 2 := by rw [Nat.mul_comm, Nat.div_div_eq_div_mul]
    have e2 : j.val / (2 * b) = j.val / b / 2 := by rw [Nat.mul_comm, Nat.div_div_eq_div_mul]
    rw [e1, e2]
    generalize i.val / b = x at *
    generalize j.val / b = y at *
    by_cases h1 : x = y
    · subst h1
      have : ¬ (x % 2 = 1 ∧ x % 2 = 0) := by omega
      simp [this]
    · by_cases h2 : x / 2 = y / 2
      · have h3 : x % 2 = 1 ∧ y % 2 = 0 := by omega
        simp [h1, h2, h3]
      · simp [h1, h2]

/-- A doubling step doubles the size of the blocks that are inverted. -/
theorem Inverts.double {b : ℕ} (hb : 0 < b) {A T : Matrix (Fin n) (Fin n) ℝ}
    (hA : ∀ i j : Fin n, i ≤ j → A i j = 0) (h : Inverts b A T) :
    Inverts (2 * b) A (double b A T) := by
  have hz : quarter b A * T * quarter b A = 0 := by
    ext i l
    simp only [Matrix.mul_apply, Matrix.zero_apply, Finset.sum_mul]
    refine Finset.sum_eq_zero fun k _ => Finset.sum_eq_zero fun j _ => ?_
    by_cases h1 : j.val / b = k.val / b
    · by_cases h2 : j.val / b % 2 = 0
      · have : ¬ (k.val / b % 2 = 1) := by omega
        simp [quarter, this]
      · simp [quarter, h2]
    · simp [h.diag j k h1]
  constructor
  · rw [blocks_double hb hA, Cert.Delta.double, Matrix.sub_mul, Matrix.mul_add, Matrix.mul_add, h.left,
      Matrix.mul_assoc (T * quarter b A) T (blocks b A), h.left, Matrix.mul_one,
      Matrix.mul_assoc T (quarter b A) T, Matrix.mul_assoc T _ (quarter b A), hz, Matrix.mul_zero]
    abel
  · intro i j hij
    have hij' : i.val / b ≠ j.val / b := fun e => hij (half_of_eq e)
    simp only [Cert.Delta.double, Matrix.sub_apply, h.diag i j hij', zero_sub, neg_eq_zero, Matrix.mul_apply, Finset.sum_mul]
    refine Finset.sum_eq_zero fun l _ => Finset.sum_eq_zero fun k _ => ?_
    by_cases h1 : i.val / b = k.val / b
    · by_cases h2 : l.val / b = j.val / b
      · have : ¬ (k.val / (2 * b) = l.val / (2 * b)) := fun e =>
          hij ((half_of_eq h1).trans (e.trans (half_of_eq h2)))
        simp [quarter, this]
      · simp [h.diag l j h2]
    · simp [h.diag i k h1]

/-- Blocks as large as the matrix are all of it. -/
theorem blocks_all {b : ℕ} (hb : n ≤ b) (A : Matrix (Fin n) (Fin n) ℝ) : blocks b A = 1 + A := by
  ext i j
  have : i.val / b = j.val / b := by
    rw [Nat.div_eq_of_lt (lt_of_lt_of_le i.2 hb), Nat.div_eq_of_lt (lt_of_lt_of_le j.2 hb)]
  simp [blocks, this, Matrix.one_apply]

/-- The six steps of a chunk of 64 tokens. -/
def inverse64 (A : Matrix (Fin 64) (Fin 64) ℝ) : Matrix (Fin 64) (Fin 64) ℝ :=
  double 32 A (double 16 A (double 8 A (double 4 A (double 2 A (1 - quarter 1 A)))))

theorem inverse64_mul {A : Matrix (Fin 64) (Fin 64) ℝ} (hA : ∀ i j : Fin 64, i ≤ j → A i j = 0) :
    inverse64 A * (1 + A) = 1 := by
  have h1 : Inverts 2 A (1 - quarter 1 A) := by
    have := (Inverts.one hA).double (b := 1) one_pos hA
    simpa [double] using this
  have h := ((((h1.double (b := 2) (by decide) hA).double (b := 4) (by decide) hA).double (b := 8) (by decide) hA).double
    (b := 16) (by decide) hA).double (b := 32) (by decide) hA
  rw [← blocks_all (le_refl 64) A]
  exact h.left

end Cert.Delta
-- ==== Proof.Recurrence.lean ====
/-
  The gated delta rule over the reals: token by token, and a chunk of 64 tokens at once. The two agree.
-/
module

public import proofs.«01_k».proof.Proof.Inverse
public import Mathlib.Analysis.SpecialFunctions.Exp
public import Mathlib.Algebra.BigOperators.Fin
public import Mathlib.Tactic.LinearCombination

@[expose] public section

noncomputable section

namespace Cert.Delta

variable {κ ν : Type} [Fintype κ]

/-- What one token brings: its key, query and value, the logarithm of its decay, its learning rate. -/
structure Token (κ ν : Type) where
  k : κ → ℝ
  q : κ → ℝ
  v : ν → ℝ
  g : ℝ
  b : ℝ

/-- What the token writes: its value less what the decayed state holds under its key. -/
def fresh (x : Token κ ν) (S : κ → ν → ℝ) : ν → ℝ := fun w =>
  x.b * (x.v w - ∑ d, x.k d * (Real.exp x.g * S d w))

/-- The state after the token. -/
def next (x : Token κ ν) (S : κ → ν → ℝ) : κ → ν → ℝ := fun d w =>
  Real.exp x.g * S d w + x.k d * fresh x S w

/-- The state after the first `n` tokens. -/
def state (x : ℕ → Token κ ν) (S : κ → ν → ℝ) : ℕ → κ → ν → ℝ
  | 0 => S
  | n + 1 => next (x n) (state x S n)

/-- The output of token `n`: its query read from the state after it. -/
def output (x : ℕ → Token κ ν) (S : κ → ν → ℝ) (n : ℕ) : ν → ℝ := fun w =>
  ∑ d, (x n).q d * state x S (n + 1) d w

theorem state_add (x : ℕ → Token κ ν) (S : κ → ν → ℝ) (a n : ℕ) :
    state x S (a + n) = state (fun i => x (a + i)) (state x S a) n := by
  induction n with
  | zero => rfl
  | succ n ih => rw [← Nat.add_assoc, state, state, ih]

theorem output_add (x : ℕ → Token κ ν) (S : κ → ν → ℝ) (a n : ℕ) :
    output x S (a + n) = output (fun i => x (a + i)) (state x S a) n := by
  unfold output
  rw [Nat.add_assoc, state_add]

/-- The logarithm of the decay over the first `n` tokens. -/
def decay (x : ℕ → Token κ ν) (n : ℕ) : ℝ := ∑ i ∈ Finset.range n, (x i).g

/-- The state after `n` tokens, written out. -/
theorem state_eq (x : ℕ → Token κ ν) (S : κ → ν → ℝ) (n : ℕ) (d : κ) (w : ν) :
    state x S n d w = Real.exp (decay x n) * S d w
      + ∑ j ∈ Finset.range n, Real.exp (decay x n - decay x (j + 1)) * ((x j).k d * fresh (x j) (state x S j) w) := by
  induction n with
  | zero => simp [state, decay]
  | succ n ih =>
    have hd : decay x (n + 1) = (x n).g + decay x n := by rw [decay, Finset.sum_range_succ, add_comm]; rfl
    rw [state, next, ih, Finset.sum_range_succ, sub_self, Real.exp_zero, one_mul, mul_add, Finset.mul_sum, ← add_assoc]
    congr 1
    congr 1
    · rw [hd, Real.exp_add, mul_assoc]
    · refine Finset.sum_congr rfl fun j _ => ?_
      rw [hd, add_sub_assoc, Real.exp_add, mul_assoc]

/-- What a chunk is given: the key and query codes, the factor of each, values, decays and learning rates. -/
structure Chunk (κ ν : Type) where
  kc : Fin 64 → κ → ℝ
  qc : Fin 64 → κ → ℝ
  rk : Fin 64 → ℝ
  rq : Fin 64 → ℝ
  v : Fin 64 → ν → ℝ
  g : Fin 64 → ℝ
  b : Fin 64 → ℝ

namespace Chunk

variable (X : Chunk κ ν) (S : κ → ν → ℝ)

/-- The decay up to and with token `i`. -/
def G (i : Fin 64) : ℝ := ∑ j : Fin 64, if j ≤ i then X.g j else 0

def E (i j : Fin 64) : ℝ := if j ≤ i then Real.exp (X.G i - X.G j) else 0

def A : Matrix (Fin 64) (Fin 64) ℝ := fun i j =>
  if j < i then (X.b i * X.rk i * X.rk i) * (∑ d, X.kc i d * X.kc j d) * X.E i j else 0

def P (i j : Fin 64) : ℝ := X.rq i * (∑ d, X.qc i d * X.kc j d) * X.E i j

def Y (i : Fin 64) (w : ν) : ℝ :=
  (X.rk i * X.b i) * (X.v i w - (X.rk i * Real.exp (X.G i)) * ∑ d, X.kc i d * S d w)

def V (i : Fin 64) (w : ν) : ℝ := ∑ j, inverse64 X.A i j * X.Y S j w

def o (i : Fin 64) (w : ν) : ℝ :=
  (X.rq i * Real.exp (X.G i)) * (∑ d, X.qc i d * S d w) + ∑ j, X.P i j * X.V S j w

def next (d : κ) (w : ν) : ℝ :=
  Real.exp (X.G 63) * S d w + ∑ i, X.kc i d * (Real.exp (X.G 63 - X.G i) * X.V S i w)

/-- The tokens of the chunk are those of `x`. -/
structure Of (x : ℕ → Token κ ν) : Prop where
  k : ∀ (i : Fin 64) (d : κ), (x i).k d = X.kc i d * X.rk i
  q : ∀ (i : Fin 64) (d : κ), (x i).q d = X.qc i d * X.rq i
  v : ∀ i : Fin 64, (x i).v = X.v i
  g : ∀ i : Fin 64, (x i).g = X.g i
  b : ∀ i : Fin 64, (x i).b = X.b i

variable {X} {x : ℕ → Token κ ν} (h : X.Of x)

include h

/-- A sum over the tokens before `n` is a sum over the chunk, the later ones left out. -/
theorem sum_range {n : ℕ} (hn : n ≤ 64) (f : ℕ → ℝ) :
    ∑ j ∈ Finset.range n, f j = ∑ j : Fin 64, if j.val < n then f j else 0 := by
  rw [Fin.sum_univ_eq_sum_range (fun j => if j < n then f j else 0) 64, ← Finset.sum_filter]
  congr 1
  ext j
  simp only [Finset.mem_range, Finset.mem_filter]
  omega

theorem decay_eq (i : Fin 64) : decay x (i + 1) = X.G i := by
  rw [decay, sum_range h (by omega)]
  refine Finset.sum_congr rfl fun j _ => ?_
  rw [h.g]
  exact if_congr (by rw [Fin.le_def]; omega) rfl rfl

/-- The token's own decay times the state before it: the state at the chunk's start and what the tokens before it wrote. -/
theorem decayed_eq (i : Fin 64) (d : κ) (w : ν) :
    Real.exp (x i).g * state x S i d w = Real.exp (X.G i) * S d w
      + ∑ j : Fin 64, if j < i then Real.exp (X.G i - X.G j) * ((x j).k d * fresh (x j) (state x S j) w) else 0 := by
  have hd : X.G i = (x i).g + decay x i := by rw [← decay_eq h, decay, Finset.sum_range_succ, add_comm]; rfl
  rw [state_eq, sum_range h (by omega), mul_add, Finset.mul_sum, ← mul_assoc, ← Real.exp_add, ← hd]
  congr 1
  refine Finset.sum_congr rfl fun j _ => ?_
  simp only [Fin.lt_def]
  split_ifs
  · rw [← mul_assoc, ← Real.exp_add, decay_eq h, ← add_sub_assoc, ← hd]
  · exact mul_zero _

/-- What the chunk solves for is what the tokens write, times the factor of the key. -/
theorem solves (w : ν) (i : Fin 64) :
    (∑ j, (1 + X.A) i j * (X.rk j * fresh (x j) (state x S j) w)) = X.Y S i w := by
  have e : fresh (x i) (state x S i) w
      = X.b i * (X.v i w - (Real.exp (X.G i) * X.rk i * (∑ d, X.kc i d * S d w)
        + ∑ j : Fin 64, if j < i then Real.exp (X.G i - X.G j) * (X.rk i * X.rk j * (∑ d, X.kc i d * X.kc j d))
            * fresh (x j) (state x S j) w else 0)) := by
    rw [fresh, h.b, h.v]
    congr 2
    simp only [decayed_eq S h, h.k, mul_add, Finset.sum_add_distrib, Finset.mul_sum]
    rw [Finset.sum_comm (s := (Finset.univ : Finset κ)) (t := (Finset.univ : Finset (Fin 64)))]
    congr 1
    · exact Finset.sum_congr rfl fun d _ => by ring
    · refine Finset.sum_congr rfl fun j _ => ?_
      split_ifs
      · rw [Finset.sum_mul]
        exact Finset.sum_congr rfl fun d _ => by ring
      · simp
  simp only [Matrix.add_apply, add_mul, Finset.sum_add_distrib, Matrix.one_apply, ite_mul, one_mul, zero_mul,
    Finset.sum_ite_eq, Finset.mem_univ, if_true]
  rw [e, Y]
  have e2 : ∑ j, X.A i j * (X.rk j * fresh (x j) (state x S j) w)
      = X.rk i * X.b i * ∑ j : Fin 64, if j < i then Real.exp (X.G i - X.G j)
          * (X.rk i * X.rk j * (∑ d, X.kc i d * X.kc j d)) * fresh (x j) (state x S j) w else 0 := by
    rw [Finset.mul_sum]
    refine Finset.sum_congr rfl fun j _ => ?_
    rw [A, E]
    split_ifs with h1 h2
    · ring
    · exact absurd (le_of_lt h1) h2
    · simp
  rw [e2]
  ring

theorem V_eq (i : Fin 64) (w : ν) : X.V S i w = X.rk i * fresh (x i) (state x S i) w := by
  have hA : ∀ i j : Fin 64, i ≤ j → X.A i j = 0 := fun i j hij => if_neg (not_lt.mpr hij)
  let W : Fin 64 → ℝ := fun j => X.rk j * fresh (x j) (state x S j) w
  have hW : (fun j => X.Y S j w) = (1 + X.A).mulVec W := funext fun i => (solves S h w i).symm
  have : (inverse64 X.A).mulVec (fun j => X.Y S j w) = W := by
    rw [hW, Matrix.mulVec_mulVec, inverse64_mul hA, Matrix.one_mulVec]
  exact congrFun this i

theorem next_eq : X.next S = state x S 64 := by
  ext d w
  have e := state_eq x S 64 d w
  have h63 : decay x 64 = X.G 63 := decay_eq h 63
  rw [e, sum_range h (le_refl 64), h63, next]
  congr 1
  refine Finset.sum_congr rfl fun i _ => ?_
  rw [if_pos i.2, decay_eq h, V_eq S h, h.k]
  ring

theorem o_eq (i : Fin 64) (w : ν) : X.o S i w = output x S i w := by
  have e : ∀ d, state x S (i + 1) d w = Real.exp (X.G i) * S d w
      + ∑ j : Fin 64, X.E i j * ((x j).k d * fresh (x j) (state x S j) w) := fun d => by
    rw [state_eq, sum_range h (by omega), decay_eq h]
    congr 1
    refine Finset.sum_congr rfl fun j _ => ?_
    rw [E, decay_eq h, ite_mul, zero_mul]
    exact if_congr (by rw [Fin.le_def]; omega) rfl rfl
  rw [o, output]
  simp only [e, h.q, h.k, mul_add, Finset.sum_add_distrib, Finset.mul_sum, V_eq S h, P, Finset.sum_mul]
  rw [Finset.sum_comm (s := (Finset.univ : Finset κ)) (t := (Finset.univ : Finset (Fin 64)))]
  congr 1
  · exact Finset.sum_congr rfl fun d _ => by ring
  · exact Finset.sum_congr rfl fun j _ => Finset.sum_congr rfl fun d _ => by ring

end Chunk

end Cert.Delta
-- ==== Proof.Tokens.lean ====
/-
The problem's arrays over the reals, and the tokens of one batch entry and head.
-/
module

public import proofs.«01_k».proof.Proof.Row
public import proofs.«01_k».proof.Proof.Recurrence

@[expose] public section

noncomputable section

namespace Cert.Delta

/-- The six arrays: batch entry, token, head, and the coordinate within the head. -/
structure Inputs where
  q : Fin 4 → Fin 512 → Fin 10 → Fin 128 → ℝ
  k : Fin 4 → Fin 512 → Fin 10 → Fin 128 → ℝ
  v : Fin 4 → Fin 512 → Fin 10 → Fin 256 → ℝ
  g : Fin 4 → Fin 512 → Fin 10 → ℝ
  b : Fin 4 → Fin 512 → Fin 10 → ℝ
  S : Fin 4 → Fin 10 → Fin 128 → Fin 256 → ℝ
  qb : ∀ b t h, Bounded (q b t h)
  kb : ∀ b t h, Bounded (k b t h)

/-- The number of a token, kept below the number of tokens. -/
def tokenNo (t : ℕ) : Fin 512 := ⟨t % 512, Nat.mod_lt _ (by decide)⟩

theorem tokenNo_eq (t : Fin 512) : tokenNo t = t := Fin.ext (Nat.mod_eq_of_lt t.isLt)

theorem tokenNo_of {t : ℕ} (ht : t < 512) : tokenNo t = ⟨t, ht⟩ := Fin.ext (Nat.mod_eq_of_lt ht)

/-- The tokens of a batch entry and a head: keys and queries are codes times scale over length, the queries times their factor. -/
def Inputs.token (I : Inputs) (b : Fin 4) (h : Fin 10) (t : ℕ) : Token (Fin 128) (Fin 256) where
  k d := code (I.k b (tokenNo t) h) d * (rlen (I.k b (tokenNo t) h) * scl (I.k b (tokenNo t) h))
  q d := code (I.q b (tokenNo t) h) d * (rlen (I.q b (tokenNo t) h) * scl (I.q b (tokenNo t) h) * dsc)
  v := I.v b (tokenNo t) h
  g := I.g b (tokenNo t) h
  b := I.b b (tokenNo t) h

/-- The state after `n` tokens. -/
def Inputs.stateAt (I : Inputs) (b : Fin 4) (h : Fin 10) (n : ℕ) : Fin 128 → Fin 256 → ℝ := state (I.token b h) (I.S b h) n

/-- The output of token `t`. -/
def Inputs.outputAt (I : Inputs) (b : Fin 4) (h : Fin 10) (t : ℕ) : Fin 256 → ℝ := output (I.token b h) (I.S b h) t

end Cert.Delta
-- ==== Proof.Finite.lean ====
/-
What the precondition says: every entry of the six arrays is real, and the entries of the first two are bounded.
-/
module

public import proofs.«01_k».proof.Defs
public import proofs.«01_k».proof.Proof.Gen.Pre_finite
public import proofs.«01_k».proof.Proof.Tokens
public import Idealize.ShloMosaic.Lib.ReduceAll
public import Idealize.ShloMosaic.Lib.Pipeline.ValueKit

@[expose] public section

noncomputable section

namespace Cert.Pre_finite

open Cert.Pre_finite Cert.Pre_finite.Gen Idealize.ShloMosaic Idealize.ShloMosaic.TcCoe
open Cert.Delta (Inputs Bounded)

/-- The largest finite number of the half-width type. -/
def topHalf : ℝ := 255 * 2 ^ 120
/-- The largest finite number of the full-width type. -/
def topFull : ℝ := 16777215 * 2 ^ 104

theorem ofBits_topHalf : Ideal.ofBits .f32 0x7F7F0000#32 = (topHalf : EReal) := by
  simp [Ideal.ofBits, Ideal.ieee, topHalf, -EReal.coe_mul]; norm_num
theorem ofBits_topFull : Ideal.ofBits .f32 0x7F7FFFFF#32 = (topFull : EReal) := by
  simp [Ideal.ofBits, Ideal.ieee, topFull, -EReal.coe_mul]

instance : Subsingleton S_.Idx := ⟨fun a b => funext fun i => i.elim0⟩

/-- What one bound says of one entry. -/
theorem entry_le {s : Shape} (x : FVec Ideal s .f32) {C : BitVec 32} {hb : S_.BroadcastsInDim s (![] : Fin 0 → Fin s.rank)}
    {axes : List (Fin s.rank)} {h : s.ReducesTo axes S_} {hu : 0 < S_.numel} {j : S_.Idx}
    (e : Host.reduce IntOp.andi (cmpf .ole (Host.absf x) (broadcastInDim s ![] hb (constant (F := Ideal) S_ .f32 C))) (constantI S_ 1 1#1) h hu j
      = 1#1) (i : s.Idx) : max (x i) (-(x i)) ≤ Ideal.ofBits .f32 C := by
  have hi := Host.reduce_andi_all _ _ h hu j e i
  change BitVec.ofBool (decide (max (x i) (-(x i)) ≤ Ideal.ofBits .f32 C)) = 1#1 at hi
  by_contra hn
  rw [decide_eq_false hn] at hi
  exact absurd hi (by decide)

/-- An extended real bounded by a real is that real's. -/
theorem real_of_le {x C : EReal} {M : ℝ} (hC : C = (M : EReal)) (h : max x (-x) ≤ C) : x = ((x.toReal : ℝ) : EReal) ∧ |x.toReal| ≤ M := by
  rw [hC, max_le_iff] at h
  have ht : x ≠ ⊤ := fun e => by rw [e] at h; exact absurd h.1 (by simp)
  have hb : x ≠ ⊥ := fun e => by rw [e] at h; exact absurd h.2 (by simp)
  have hx := EReal.coe_toReal ht hb
  refine ⟨hx.symm, ?_⟩
  rw [← hx, ← EReal.coe_neg, EReal.coe_le_coe_iff, EReal.coe_le_coe_iff] at h
  exact abs_le.2 ⟨by linarith [h.2], h.1⟩

variable {x0 x1 : FVec Ideal S4x512x10x128 .bf16} {x2 : FVec Ideal S4x512x10x256 .bf16} {x3 x4 : FVec Ideal S4x512x10 .f32}
  {x5 : FVec Ideal S4x10x128x256 .f32}

/-- The precondition, entry by entry. -/
theorem entries (e : fn (F := Ideal) x0 x1 x2 x3 x4 x5 = fun _ => 1#1) :
    (∀ i, max (x0 i) (-(x0 i)) ≤ Ideal.ofBits .f32 0x7F7F0000#32) ∧ (∀ i, max (x1 i) (-(x1 i)) ≤ Ideal.ofBits .f32 0x7F7F0000#32)
      ∧ (∀ i, max (x2 i) (-(x2 i)) ≤ Ideal.ofBits .f32 0x7F7F0000#32) ∧ (∀ i, max (x3 i) (-(x3 i)) ≤ Ideal.ofBits .f32 0x7F7FFFFF#32)
      ∧ (∀ i, max (x4 i) (-(x4 i)) ≤ Ideal.ofBits .f32 0x7F7FFFFF#32) ∧ (∀ i, max (x5 i) (-(x5 i)) ≤ Ideal.ofBits .f32 0x7F7FFFFF#32) := by
  have e0 := congrFun e (fun i => i.elim0)
  unfold fn fn_part1 at e0
  obtain ⟨e0, h5⟩ := IntOp.andi_eq_one.1 e0
  obtain ⟨e0, h4⟩ := IntOp.andi_eq_one.1 e0
  obtain ⟨e0, h3⟩ := IntOp.andi_eq_one.1 e0
  obtain ⟨e0, h2⟩ := IntOp.andi_eq_one.1 e0
  obtain ⟨h0, h1⟩ := IntOp.andi_eq_one.1 e0
  exact ⟨entry_le (s := S4x512x10x128) x0 h0, entry_le (s := S4x512x10x128) x1 h1, entry_le (s := S4x512x10x256) x2 h2, entry_le x3 h3, entry_le x4 h4, entry_le x5 h5⟩

theorem topHalf_le : topHalf ≤ (2 : ℝ) ^ (128 : ℤ) := by
  norm_num [topHalf]

/-- The arrays over the reals. -/
def inputs (e : fn (F := Ideal) x0 x1 x2 x3 x4 x5 = fun _ => 1#1) : Inputs where
  q b t h d := EReal.toReal (x0 (ix4 b t h d))
  k b t h d := EReal.toReal (x1 (ix4 b t h d))
  v b t h w := EReal.toReal (x2 (ix4 b t h w))
  g b t h := EReal.toReal (x3 (ix3 b t h))
  b e t h := EReal.toReal (x4 (ix3 e t h))
  S b h d w := EReal.toReal (x5 (ix4 b h d w))
  qb b t h d := (real_of_le ofBits_topHalf ((entries e).1 _)).2.trans topHalf_le
  kb b t h d := (real_of_le ofBits_topHalf ((entries e).2.1 _)).2.trans topHalf_le

variable (e : fn (F := Ideal) x0 x1 x2 x3 x4 x5 = fun _ => 1#1)

theorem q_eq (b t h d) : x0 (ix4 b t h d) = (((inputs e).q b t h d : ℝ) : EReal) := (real_of_le ofBits_topHalf ((entries e).1 _)).1
theorem k_eq (b t h d) : x1 (ix4 b t h d) = (((inputs e).k b t h d : ℝ) : EReal) := (real_of_le ofBits_topHalf ((entries e).2.1 _)).1
theorem v_eq (b t h w) : x2 (ix4 b t h w) = (((inputs e).v b t h w : ℝ) : EReal) := (real_of_le ofBits_topHalf ((entries e).2.2.1 _)).1
theorem g_eq (b t h) : x3 (ix3 b t h) = (((inputs e).g b t h : ℝ) : EReal) := (real_of_le ofBits_topFull ((entries e).2.2.2.1 _)).1
theorem b_eq (b t h) : x4 (ix3 b t h) = (((inputs e).b b t h : ℝ) : EReal) := (real_of_le ofBits_topFull ((entries e).2.2.2.2.1 _)).1
theorem S_eq (b h d w) : x5 (ix4 b h d w) = (((inputs e).S b h d w : ℝ) : EReal) := (real_of_le ofBits_topFull ((entries e).2.2.2.2.2 _)).1

end Cert.Pre_finite
-- ==== Proof.Chunk.lean ====
/-
One chunk of 64 tokens of the kernel, as a function of what it loads.

The kernel's body repeats one block of code for each of 8 chunks and 4 batch entries. The definitions below are that block's values,
in the order the body makes them: the quantiser, the gates and norms, the two masked products of codes, the block inverse, and the
chunk's output and next state.
-/
module

public import proofs.«01_k».proof.Proof.Gen.KernelIdeal.Value

@[expose] public section

set_option maxRecDepth 16384

noncomputable section

namespace Cert.KernelIdeal.Chunk

open Cert.KernelIdeal Cert.KernelIdeal.Gen Idealize.ShloMosaic Idealize.ShloMosaic.TcCoe

/-! The row and column numbers of a 64 by 64 matrix, and the masks made of them. -/

def ri : IVec S64x64 32 := iota .tc S64x64 32 [0] iota_S64x64_d0_w32
def ci : IVec S64x64 32 := iota .tc S64x64 32 [1] iota_S64x64_d1_w32
def ge : IVec S64x64 1 := cmpi .sge ri ci
def gt : IVec S64x64 1 := cmpi .sgt ri ci
def eq : IVec S64x64 1 := cmpi .eq ri ci

/-- The sign of each entry. -/
def sgn (x : IVec S64x64 32) : IVec S64x64 32 :=
  subi (extui 32 (cmpi .sgt x (broadcast S64x64 0#32)) natLt_1_32) (extui 32 (cmpi .slt x (broadcast S64x64 0#32)) natLt_1_32)

/-- Division by `d` rounded down. -/
def fdiv (x : IVec S64x64 32) (d : BitVec 32) : IVec S64x64 32 :=
  select (andi (cmpi .ne (sgn x) (broadcast S64x64 (Scalar.subi (Scalar.extui (Scalar.cmpi .sgt d 0#32)) (Scalar.extui (Scalar.cmpi .slt d 0#32)))))
      (cmpi .ne (remsi x (broadcast S64x64 d)) (broadcast S64x64 0#32)))
    (subi (divsi x (broadcast S64x64 d)) (broadcast S64x64 1#32)) (divsi x (broadcast S64x64 d))

/-- The modulus the remainder by two is taken with. -/
def two : BitVec 32 := Scalar.select (Scalar.cmpi .eq 2#32 0#32) 1#32 2#32

/-- The remainder by two. -/
def parity (x : IVec S64x64 32) : IVec S64x64 32 :=
  select (andi (xori (cmpi .slt (remsi x (broadcast S64x64 two)) (broadcast S64x64 0#32))
        (broadcastTo S64x64 (broadcast S64x64 (Scalar.cmpi .slt two 0#32)) broadcasts_S64x64_S64x64))
      (cmpi .ne (remsi x (broadcast S64x64 two)) (broadcast S64x64 0#32)))
    (addi (remsi x (broadcast S64x64 two)) (broadcast S64x64 two)) (remsi x (broadcast S64x64 two))

/-- The lower left quarters of the diagonal blocks of `2 b` rows: `d` is `b` and `e` is `2 b`. -/
def mask (d e : BitVec 32) : IVec S64x64 1 :=
  andi (andi (cmpi .eq (fdiv ri e) (fdiv ci e)) (cmpi .eq (parity (fdiv ri d)) (broadcast S64x64 1#32)))
    (cmpi .eq (parity (fdiv ci d)) (broadcast S64x64 0#32))

variable {F : FTy → Type} [FloatOps F]

/-- The unit matrix. -/
def one : FVec F S64x64 .f32 :=
  select eq (broadcast S64x64 (Scalar.ofBits .f32 0x3F800000#32)) (broadcast S64x64 (Scalar.ofBits .f32 0x00000000#32))

/-! Columns turned into rows and rows into columns, through the diagonal. -/

def rowOf (x : FVec F S64x1 .f32) : FVec F S1x64 .f32 :=
  shapeCast S1x64 (multiReduction .add [0] S64
    (select eq (broadcastTo S64x64 (shapeCast S64x1 x shapeCasts_S64x1_S64x1) broadcasts_S64x1_S64x64)
      (broadcast S64x64 (Scalar.ofBits .f32 0x00000000#32)))
    0x00000000#32 reduces_S64x64_S64 (.inl rfl) rfl) shapeCasts_S64_S1x64

def colOf (x : FVec F S1x64 .f32) : FVec F S64x1 .f32 :=
  shapeCast S64x1 (multiReduction .add [1] S64
    (select eq (broadcastTo S64x64 (shapeCast S1x64 x shapeCasts_S1x64_S1x64) broadcasts_S1x64_S64x64)
      (broadcast S64x64 (Scalar.ofBits .f32 0x00000000#32)))
    0x00000000#32 reduces_S64x64_S64_2 (.inl rfl) rfl) shapeCasts_S64_S64x1

/-! The quantiser. -/

/-- A block of keys or queries widened. -/
def wide (x : Vec F S1x1x64x128 .bf16) : FVec F S64x128 .f32 :=
  extf .f32 (shapeCast S64x128 x shapeCasts_S1x1x64x128_S64x128) bitsLt_bf16_f32

/-- A row's largest magnitude over the largest code. -/
def amax (x : FVec F S64x128 .f32) : FVec F S64x1 .f32 :=
  mulf (shapeCast S64x1 (multiReduction .maximumf [1] S64 (absf x) 0xFF800000#32 reduces_S64x128_S64 (.inl rfl) rfl) shapeCasts_S64_S64x1)
    (broadcast S64x1 (Scalar.ofBits .f32 0x3B124925#32))

/-- The numbers 0 to 255. -/
def ns : IVec S1x256 32 := iota .tc S1x256 32 [1] iota_S1x256_d1_w32

/-- Which of the powers of two the row reaches. -/
def reached (x : FVec F S64x128 .f32) : IVec S64x256 1 :=
  andi (broadcastTo S64x256 (cmpi .sgt ns (broadcast S1x256 0#32)) broadcasts_S1x256_S64x256)
    (cmpf .oge (broadcastTo S64x256 (amax x) broadcasts_S64x1_S64x256)
      (broadcastTo S64x256 (bitcastToFloat .f32 (shli ns (broadcast S1x256 23#32))) broadcasts_S1x256_S64x256))

/-- The exponent field, from the count of the powers reached. -/
def field (x : FVec F S64x128 .f32) : IVec S64x1 32 :=
  shapeCast S64x1 (multiReductionI .add [1] S64
    (select (reached x) (broadcast S64x256 8388608#32) (broadcast S64x256 0#32)) 0#32 reduces_S64x256_S64 rfl) shapeCasts_S64_S64x1

/-- The scale's bits. -/
def sbits (x : FVec F S64x128 .f32) : IVec S64x1 32 :=
  select (cmpi .eq (field x) (broadcast S64x1 0#32)) (broadcast S64x1 1065353216#32) (addi (field x) (broadcast S64x1 8388608#32))

def scale (x : FVec F S64x128 .f32) : FVec F S64x1 .f32 := bitcastToFloat .f32 (sbits x)

/-- One over the scale. -/
def unscale (x : FVec F S64x128 .f32) : FVec F S64x1 .f32 :=
  bitcastToFloat .f32 (subi (broadcast S64x1 2130706432#32) (sbits x))

def codes (x : FVec F S64x128 .f32) : FVec F S64x128 .fp8e4m3 :=
  truncf .fp8e4m3 (minimumf (broadcast S64x128 (Scalar.ofBits .f32 0x43E00000#32))
    (maximumf (broadcast S64x128 (Scalar.ofBits .f32 0xC3E00000#32))
      (mulf x (broadcastTo S64x128 (unscale x) broadcasts_S64x1_S64x128)))) bitsLt_fp8e4m3_f32

/-- One over a row's length. -/
def rnorm (x : FVec F S64x128 .f32) : FVec F S64x1 .f32 :=
  rsqrt (addf (shapeCast S64x1 (multiReduction .add [1] S64 (mulf x x) 0x00000000#32 reduces_S64x128_S64 (.inl rfl) rfl) shapeCasts_S64_S64x1)
    (broadcast S64x1 (Scalar.ofBits .f32 0x358637BD#32)))

/-- The factor a row of key codes is taken with. -/
def rk (x : FVec F S64x128 .f32) : FVec F S64x1 .f32 := mulf (rnorm x) (scale x)

/-- The factor a row of query codes is taken with. -/
def rq (x : FVec F S64x128 .f32) : FVec F S64x1 .f32 :=
  mulf (rk x) (broadcast S64x1 (Scalar.ofBits .f32 0x3DB504F3#32))

/-! The gates. -/

def beta (b : Vec F S1x1x64 .f32) : FVec F S64x1 .f32 := colOf (shapeCast S1x64 b shapeCasts_S1x1x64_S1x64)

/-- The running sum of the gates. -/
def gsum (g : Vec F S1x1x64 .f32) : FVec F S64x1 .f32 :=
  shapeCast S64x1 (multiReduction .add [1] S64
    (select ge (broadcastTo S64x64 (shapeCast S1x64 (shapeCast S1x64 g shapeCasts_S1x1x64_S1x64) shapeCasts_S1x64_S1x64) broadcasts_S1x64_S64x64)
      (broadcast S64x64 (Scalar.ofBits .f32 0x00000000#32)))
    0x00000000#32 reduces_S64x64_S64_2 (.inl rfl) rfl) shapeCasts_S64_S64x1

/-- The sum of the chunk's gates. -/
def glast (g : Vec F S1x1x64 .f32) : FVec F S1x1 .f32 := extractStridedSlice S1x1 ![63, 0] (gsum g) slices_S64x1_o63_0_S1x1

/-- The decay from one token to a later one, nought above the diagonal. -/
def decay (g : Vec F S1x1x64 .f32) : FVec F S64x64 .f32 :=
  select ge (exp (select ge (subf (broadcastTo S64x64 (gsum g) broadcasts_S64x1_S64x64) (broadcastTo S64x64 (rowOf (gsum g)) broadcasts_S1x64_S64x64))
      (broadcast S64x64 (Scalar.ofBits .f32 0x00000000#32))))
    (broadcast S64x64 (Scalar.ofBits .f32 0x00000000#32))

/-! The two products of codes. -/

/-- What a token's value loses to earlier tokens of the chunk. -/
def amat (k : FVec F S64x128 .f32) (g b : Vec F S1x1x64 .f32) : FVec F S64x64 .f32 :=
  select gt (mulf (mulf (broadcastTo S64x64 (mulf (mulf (beta b) (rk k)) (rk k)) broadcasts_S64x1_S64x64)
      (matmul dot_S64x128_S64x128_S64x64_1_1_0_0_n_n none (codes k) (codes k) (constant S64x64 .f32 0x00000000#32))) (decay g))
    (broadcast S64x64 (Scalar.ofBits .f32 0x00000000#32))

/-- What a token's output takes from the chunk. -/
def pmat (q k : FVec F S64x128 .f32) (g : Vec F S1x1x64 .f32) : FVec F S64x64 .f32 :=
  mulf (mulf (broadcastTo S64x64 (rq q) broadcasts_S64x1_S64x64)
    (matmul dot_S64x128_S64x128_S64x64_1_1_0_0_n_n none (codes q) (codes k) (constant S64x64 .f32 0x00000000#32))) (decay g)

/-! The block inverse. -/

/-- The chosen quarters of `a`. -/
def quarter (d e : BitVec 32) (a : FVec F S64x64 .f32) : FVec F S64x64 .f32 :=
  select (mask d e) a (broadcast S64x64 (Scalar.ofBits .f32 0x00000000#32))

/-- The inverse for blocks of twice the size. -/
def double (d e : BitVec 32) (a t : FVec F S64x64 .f32) : FVec F S64x64 .f32 :=
  subf t (matmul dot_S64x64_S64x64_S64x64_1_0_0_1_n_n (some .fp32)
    (matmul dot_S64x64_S64x64_S64x64_1_0_0_1_n_n (some .fp32) t (quarter d e a) (constant S64x64 .f32 0x00000000#32)) t
    (constant S64x64 .f32 0x00000000#32))

def inverse (a : FVec F S64x64 .f32) : FVec F S64x64 .f32 :=
  double 32#32 64#32 a (double 16#32 32#32 a (double 8#32 16#32 a (double 4#32 8#32 a (double 2#32 4#32 a (subf one (quarter 1#32 2#32 a))))))

/-! The chunk's values, output and next state. -/

variable (k q : FVec F S64x128 .f32) (v : Vec F S1x1x64x256 .bf16) (g b : Vec F S1x1x64 .f32) (S : Vec F S1x1x128x256 .f32)

/-- The state as a matrix. -/
def mat : FVec F S128x256 .f32 := shapeCast S128x256 S shapeCasts_S1x1x128x256_S128x256

/-- The values less what the state already holds. -/
def yval : FVec F S64x256 .f32 :=
  mulf (broadcastTo S64x256 (mulf (rk k) (beta b)) broadcasts_S64x1_S64x256)
    (subf (extf .f32 (shapeCast S64x256 v shapeCasts_S1x1x64x256_S64x256) bitsLt_bf16_f32)
      (mulf (broadcastTo S64x256 (mulf (rk k) (exp (gsum g))) broadcasts_S64x1_S64x256)
        (matmul dot_S64x128_S128x256_S64x256_1_0_0_1_n_n (some .fp32) (extf .f32 (codes k) bitsLt_fp8e4m3_f32) (mat S)
          (constant S64x256 .f32 0x00000000#32))))

/-- The new values. -/
def vnew : FVec F S64x256 .f32 :=
  matmul dot_S64x64_S64x256_S64x256_1_0_0_1_n_n (some .fp32) (inverse (amat k g b)) (yval k v g b S) (constant S64x256 .f32 0x00000000#32)

/-- The chunk's output. -/
def out : FVec F S64x256 .f32 :=
  addf (mulf (broadcastTo S64x256 (mulf (rq q) (exp (gsum g))) broadcasts_S64x1_S64x256)
      (matmul dot_S64x128_S128x256_S64x256_1_0_0_1_n_n (some .fp32) (extf .f32 (codes q) bitsLt_fp8e4m3_f32) (mat S)
        (constant S64x256 .f32 0x00000000#32)))
    (matmul dot_S64x64_S64x256_S64x256_1_0_0_1_n_n (some .fp32) (pmat q k g) (vnew k v g b S) (constant S64x256 .f32 0x00000000#32))

/-- The state after the chunk. -/
def next : FVec F S128x256 .f32 :=
  addf (mulf (broadcastTo S128x256 (exp (glast g)) broadcasts_S1x1_S128x256) (mat S))
    (matmul dot_S64x128_S64x256_S128x256_0_0_1_1_n_n (some .fp32) (extf .f32 (codes k) bitsLt_fp8e4m3_f32)
      (mulf (broadcastTo S64x256 (exp (subf (broadcastTo S64x1 (glast g) broadcasts_S1x1_S64x1) (gsum g))) broadcasts_S64x1_S64x256)
        (vnew k v g b S)) (constant S128x256 .f32 0x00000000#32))

/-! What the chunk stores. -/

/-- The codes stored. -/
def pcodes (x : Vec F S1x1x64x128 .bf16) : Vec F S1x1x64x128 .fp8e4m3 :=
  shapeCast S1x1x64x128 (codes (wide x)) shapeCasts_S64x128_S1x1x64x128

/-- The scales stored. -/
def pscale (x : Vec F S1x1x64x128 .bf16) : Vec F S1x1x64 .f32 :=
  shapeCast S1x1x64 (rowOf (scale (wide x))) shapeCasts_S1x64_S1x1x64

/-- The output stored. -/
def pout (kb qb : Vec F S1x1x64x128 .bf16) : Vec F S1x1x64x256 .bf16 :=
  shapeCast S1x1x64x256 (truncf .bf16 (out (wide kb) (wide qb) v g b S) bitsLt_bf16_f32) shapeCasts_S64x256_S1x1x64x256

/-- The state stored. -/
def pnext (kb : Vec F S1x1x64x128 .bf16) : Vec F S1x1x128x256 .f32 :=
  shapeCast S1x1x128x256 (next (wide kb) v g b S) shapeCasts_S128x256_S1x1x128x256

end Cert.KernelIdeal.Chunk
-- ==== Proof.Pieces.lean ====
/-
What one grid point of the kernel stores, as lists that go on by one chunk at a time.

Step `n` of a grid point is chunk `n / 4` of batch entry `n % 4`. Each step loads its part of the inputs and the state its batch entry's
last step stored, and stores codes, scales, an output and a state: `Chunk`'s functions of what it loads.
-/
module

public import proofs.«01_k».proof.Proof.Chunk

@[expose] public section

set_option maxRecDepth 16384

noncomputable section

namespace Cert.KernelIdeal.Chunk

open Cert.KernelIdeal Cert.KernelIdeal.Gen Idealize.ShloMosaic Idealize.ShloMosaic.TcCoe

/-! The parts of the blocks a step loads and stores. -/

theorem inb_keys (n : ℕ) : ∀ a, (![n % 4, 0, 64 * (n / 4 % 8), 0] : Fin 4 → ℕ) a + S1x1x64x128.size a ≤ S4x1x512x128.size a := by
  simp [Fin.forall_fin_succ]; omega

theorem inb_values (n : ℕ) : ∀ a, (![n % 4, 0, 64 * (n / 4 % 8), 0] : Fin 4 → ℕ) a + S1x1x64x256.size a ≤ S4x1x512x256.size a := by
  simp [Fin.forall_fin_succ]; omega

theorem inb_row (n : ℕ) : ∀ a, (![0, n % 4, 64 * (n / 4 % 8)] : Fin 3 → ℕ) a + S1x1x64.size a ≤ S1x4x512.size a := by
  simp [Fin.forall_fin_succ]; omega

theorem inb_state (n : ℕ) : ∀ a, (![n % 4, 0, 0, 0] : Fin 4 → ℕ) a + S1x1x128x256.size a ≤ S4x1x128x256.size a := by
  simp [Fin.forall_fin_succ]; omega

abbrev keysAt (n : ℕ) : Rect S4x1x512x128 := Rect.unit ![n % 4, 0, 64 * (n / 4 % 8), 0] S1x1x64x128.size (inb_keys n)
abbrev valuesAt (n : ℕ) : Rect S4x1x512x256 := Rect.unit ![n % 4, 0, 64 * (n / 4 % 8), 0] S1x1x64x256.size (inb_values n)
abbrev rowAt (n : ℕ) : Rect S1x4x512 := Rect.unit ![0, n % 4, 64 * (n / 4 % 8)] S1x1x64.size (inb_row n)
abbrev stateAt (n : ℕ) : Rect S4x1x128x256 := Rect.unit ![n % 4, 0, 0, 0] S1x1x128x256.size (inb_state n)

variable {F : FTy → Type} [FloatOps F]

section
variable (arg8 : View sig .tc .vmem S4x1x128x256 .f32)
  (x0 x1 : Vec F S4x1x512x128 .bf16) (x2 : Vec F S4x1x512x256 .bf16) (x3 x4 : Vec F S1x4x512 .f32) (x5 : Vec F S4x1x128x256 .f32)

/-- The states stored, last first: the initial states, then one piece a step. -/
def states : ℕ → List (View.Piece (Elt F) S4x1x128x256 .f32)
  | 0 => [⟨Rect.unit ![0, 0, 0, 0] S4x1x128x256.size inb_S4x1x128x256_S4x1x128x256_0_0_0_0,
      View.ld x5 (Rect.unit ![0, 0, 0, 0] S4x1x128x256.size inb_S4x1x128x256_S4x1x128x256_0_0_0_0)⟩]
  | n + 1 => ⟨stateAt n, pnext (View.ld x2 (valuesAt n)) (View.ld x3 (rowAt n)) (View.ld x4 (rowAt n))
      (arg8.readCov (states n) (stateAt n).toLoadRect) (View.ld x1 (keysAt n))⟩ :: states n

/-- The outputs stored. -/
def outs : ℕ → List (View.Piece (Elt F) S4x1x512x256 .bf16)
  | 0 => []
  | n + 1 => ⟨valuesAt n, pout (View.ld x2 (valuesAt n)) (View.ld x3 (rowAt n)) (View.ld x4 (rowAt n))
      (arg8.readCov (states arg8 x1 x2 x3 x4 x5 n) (stateAt n).toLoadRect) (View.ld x1 (keysAt n)) (View.ld x0 (keysAt n))⟩ :: outs n

/-- The codes stored. -/
def codesOf (x : Vec F S4x1x512x128 .bf16) : ℕ → List (View.Piece (Elt F) S4x1x512x128 .fp8e4m3)
  | 0 => []
  | n + 1 => ⟨keysAt n, pcodes (View.ld x (keysAt n))⟩ :: codesOf x n

/-- The scales stored. -/
def scalesOf (x : Vec F S4x1x512x128 .bf16) : ℕ → List (View.Piece (Elt F) S1x4x512 .f32)
  | 0 => []
  | n + 1 => ⟨rowAt n, pscale (View.ld x (keysAt n))⟩ :: scalesOf x n

end

variable (c : Dev nD) (i : grid0.Coords) (arg1 : Memref sig .tc .vmem S4x1x512x128 .bf16) (harg1 : arg1.IsWhole) (arg2 : Memref sig .tc .vmem S4x1x512x128 .bf16) (harg2 : arg2.IsWhole) (arg3 : Memref sig .tc .vmem S4x1x512x256 .bf16) (harg3 : arg3.IsWhole)
  (arg4 : Memref sig .tc .vmem S1x4x512 .f32) (harg4 : arg4.IsWhole) (arg5 : Memref sig .tc .vmem S1x4x512 .f32) (harg5 : arg5.IsWhole) (arg6 : Memref sig .tc .vmem S4x1x128x256 .f32) (harg6 : arg6.IsWhole) (arg7 : Memref sig .tc .vmem S4x1x512x256 .bf16) (harg7 : arg7.IsWhole)
  (arg8 : Memref sig .tc .vmem S4x1x128x256 .f32) (harg8 : arg8.IsWhole) (arg9 : Memref sig .tc .vmem S4x1x512x128 .fp8e4m3) (harg9 : arg9.IsWhole) (arg10 : Memref sig .tc .vmem S1x4x512 .f32) (harg10 : arg10.IsWhole) (arg11 : Memref sig .tc .vmem S4x1x512x128 .fp8e4m3) (harg11 : arg11.IsWhole)
  (arg12 : Memref sig .tc .vmem S1x4x512 .f32) (harg12 : arg12.IsWhole)
  (x0 x1 : Vec F S4x1x512x128 .bf16) (x2 : Vec F S4x1x512x256 .bf16) (x3 x4 : Vec F S1x4x512 .f32) (x5 : Vec F S4x1x128x256 .f32)

/-- What the run reads of a block it was handed is the block. -/
abbrev back {s : Shape} {e : EltTy} (a : Memref sig .tc .vmem s e) (h : a.IsWhole) (x : s.Idx → Elt F e) : s.Idx → Elt F e :=
  a.view.read (Elt F) (h.unread x)

theorem run_scales_k : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.2.2.1 = scalesOf (back arg2 harg2 x1) 32 := by sl_kernel_rfl

theorem run_codes_k : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.2.1 = codesOf (back arg2 harg2 x1) 32 := by sl_kernel_rfl

theorem run_codes_q : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.2.2.2.1 = codesOf (back arg1 harg1 x0) 32 := by sl_kernel_rfl

theorem run_scales_q : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.2.2.2.2.1 = scalesOf (back arg1 harg1 x0) 32 := by sl_kernel_rfl

theorem run_states : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.1
    = states arg8.view (back arg2 harg2 x1) (back arg3 harg3 x2) (back arg4 harg4 x3) (back arg5 harg5 x4) (back arg6 harg6 x5) 32 := by
  sl_kernel_rfl

theorem run_outs : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).1
    = outs arg8.view (back arg1 harg1 x0) (back arg2 harg2 x1) (back arg3 harg3 x2) (back arg4 harg4 x3) (back arg5 harg5 x4) (back arg6 harg6 x5) 32 := by
  sl_kernel_rfl

end Cert.KernelIdeal.Chunk
-- ==== Proof.Masks.lean ====
/-
The masks of a 64 by 64 matrix: which entries each keeps.
-/
module

public import proofs.«01_k».proof.Proof.Chunk
public import Idealize.ShloMosaic.Lib.Pointwise

@[expose] public section

set_option maxRecDepth 16384

noncomputable section

namespace Cert.KernelIdeal.Chunk

open Cert.KernelIdeal Cert.KernelIdeal.Gen Idealize.ShloMosaic Idealize.ShloMosaic.TcCoe

/-! The masks. -/

theorem select_ofBool {α : Type} (p : Prop) [Decidable p] (a b : α) :
    Scalar.select (BitVec.ofBool (decide p)) a b = if p then a else b := by
  by_cases h : p
  · rw [decide_eq_true h, if_pos h]; rfl
  · rw [decide_eq_false h, if_neg h]; rfl

theorem cmp_eq (a b : ℕ) (ha : a < 64) (hb : b < 64) :
    IntOp.cmpi .eq (BitVec.ofNat 32 a) (BitVec.ofNat 32 b) = BitVec.ofBool (decide (a = b)) := by
  have h : ∀ i j : Fin 64, IntOp.cmpi .eq (BitVec.ofNat 32 i.val) (BitVec.ofNat 32 j.val) = BitVec.ofBool (decide (i.val = j.val)) := by
    decide +kernel
  exact h ⟨a, ha⟩ ⟨b, hb⟩

theorem sel_eq {α : Type} (i j : Fin 64) (a b : α) :
    Scalar.select (IntOp.cmpi .eq (BitVec.ofNat 32 i.val) (BitVec.ofNat 32 j.val)) a b = if i = j then a else b := by
  rw [cmp_eq _ _ i.isLt j.isLt, select_ofBool]
  exact if_congr Fin.ext_iff.symm rfl rfl

theorem sel_ge {α : Type} (i j : Fin 64) (a b : α) :
    Scalar.select (IntOp.cmpi .sge (BitVec.ofNat 32 i.val) (BitVec.ofNat 32 j.val)) a b = if j ≤ i then a else b := by
  have h : ∀ i j : Fin 64, IntOp.cmpi .sge (BitVec.ofNat 32 i.val) (BitVec.ofNat 32 j.val) = BitVec.ofBool (decide (j ≤ i)) := by
    decide +kernel
  rw [h, select_ofBool]

theorem sel_gt {α : Type} (i j : Fin 64) (a b : α) :
    Scalar.select (IntOp.cmpi .sgt (BitVec.ofNat 32 i.val) (BitVec.ofNat 32 j.val)) a b = if j < i then a else b := by
  have h : ∀ i j : Fin 64, IntOp.cmpi .sgt (BitVec.ofNat 32 i.val) (BitVec.ofNat 32 j.val) = BitVec.ofBool (decide (j < i)) := by
    decide +kernel
  rw [h, select_ofBool]

/-- Division of one number, as the mask does it. -/
def fdivOf (x d : BitVec 32) : BitVec 32 := fdiv (fun _ => x) d (ix2 0 0)

/-- The remainder by two of one number, as the mask takes it. -/
def parityOf (x : BitVec 32) : BitVec 32 := parity (fun _ => x) (ix2 0 0)

/-- What the mask of a block size should be. -/
abbrev Low (n : ℕ) (i j : Fin 64) : Prop := i.val / (2 * n) = j.val / (2 * n) ∧ i.val / n % 2 = 1 ∧ j.val / n % 2 = 0

theorem ri_at (i j : Fin 64) : ri (ix2 i j) = BitVec.ofNat 32 i.val := by pointwise [ri]
theorem ci_at (i j : Fin 64) : ci (ix2 i j) = BitVec.ofNat 32 j.val := by pointwise [ci]

theorem fdiv_at (x : IVec S64x64 32) (d : BitVec 32) (i j : Fin 64) : fdiv x d (ix2 i j) = fdivOf (x (ix2 i j)) d := by
  pointwise [fdivOf, fdiv, sgn]

theorem parity_at (x : IVec S64x64 32) (i j : Fin 64) : parity x (ix2 i j) = parityOf (x (ix2 i j)) := by
  pointwise [parityOf, parity]

theorem parity_of : ∀ n : Fin 64, parityOf (BitVec.ofNat 32 n.val) = BitVec.ofNat 32 (n.val % 2) := by decide +kernel

theorem mask_at (n : ℕ) (hn : 0 < n) (d e : BitVec 32) (hd : ∀ i : Fin 64, fdivOf (BitVec.ofNat 32 i.val) d = BitVec.ofNat 32 (i.val / n))
    (he : ∀ i : Fin 64, fdivOf (BitVec.ofNat 32 i.val) e = BitVec.ofNat 32 (i.val / (2 * n))) (i j : Fin 64) :
    mask d e (ix2 i j) = BitVec.ofBool (decide (Low n i j)) := by
  have hm : mask d e (ix2 i j) = IntOp.andi (IntOp.andi (IntOp.cmpi .eq (fdiv ri e (ix2 i j)) (fdiv ci e (ix2 i j)))
      (IntOp.cmpi .eq (parity (fdiv ri d) (ix2 i j)) 1#32)) (IntOp.cmpi .eq (parity (fdiv ci d) (ix2 i j)) 0#32) := by
    pointwise [mask]
  have hi : ∀ i : Fin 64, i.val / n < 64 := fun i => lt_of_le_of_lt (Nat.div_le_self _ _) i.isLt
  have h2 : ∀ i : Fin 64, i.val / (2 * n) < 64 := fun i => lt_of_le_of_lt (Nat.div_le_self _ _) i.isLt
  rw [hm, parity_at, parity_at, fdiv_at, fdiv_at, fdiv_at, fdiv_at, ri_at, ci_at, hd, hd, he, he, parity_of ⟨_, hi i⟩, parity_of ⟨_, hi j⟩, cmp_eq _ _ (h2 i) (h2 j),
    show (1#32 : BitVec 32) = BitVec.ofNat 32 1 from rfl, show (0#32 : BitVec 32) = BitVec.ofNat 32 0 from rfl,
    cmp_eq _ _ (by omega) (by omega), cmp_eq _ _ (by omega) (by omega)]
  have hb : ∀ p q r : Bool, IntOp.andi (IntOp.andi (BitVec.ofBool p) (BitVec.ofBool q)) (BitVec.ofBool r) = BitVec.ofBool (p && (q && r)) := by
    decide
  rw [hb]
  simp only [Bool.decide_and]

theorem mask1 : ∀ i j : Fin 64, mask 1#32 2#32 (ix2 i j) = BitVec.ofBool (decide (Low 1 i j)) :=
  mask_at 1 (by decide) _ _ (by decide +kernel) (by decide +kernel)
theorem mask2 : ∀ i j : Fin 64, mask 2#32 4#32 (ix2 i j) = BitVec.ofBool (decide (Low 2 i j)) :=
  mask_at 2 (by decide) _ _ (by decide +kernel) (by decide +kernel)
theorem mask4 : ∀ i j : Fin 64, mask 4#32 8#32 (ix2 i j) = BitVec.ofBool (decide (Low 4 i j)) :=
  mask_at 4 (by decide) _ _ (by decide +kernel) (by decide +kernel)
theorem mask8 : ∀ i j : Fin 64, mask 8#32 16#32 (ix2 i j) = BitVec.ofBool (decide (Low 8 i j)) :=
  mask_at 8 (by decide) _ _ (by decide +kernel) (by decide +kernel)
theorem mask16 : ∀ i j : Fin 64, mask 16#32 32#32 (ix2 i j) = BitVec.ofBool (decide (Low 16 i j)) :=
  mask_at 16 (by decide) _ _ (by decide +kernel) (by decide +kernel)
theorem mask32 : ∀ i j : Fin 64, mask 32#32 64#32 (ix2 i j) = BitVec.ofBool (decide (Low 32 i j)) :=
  mask_at 32 (by decide) _ _ (by decide +kernel) (by decide +kernel)

end Cert.KernelIdeal.Chunk
-- ==== Proof.ChunkIdeal.lean ====
/-
The chunk's values read over the extended reals: at real inputs each is the real number the chunk of the recurrence has there.
-/
module

public import proofs.«01_k».proof.Proof.Masks
public import proofs.«01_k».proof.Proof.Row
public import proofs.«01_k».proof.Proof.Recurrence
public import Idealize.ShloMosaic.Lib.Pointwise

@[expose] public section

set_option maxRecDepth 16384

noncomputable section

namespace Cert.KernelIdeal.Chunk

open Cert.KernelIdeal Cert.KernelIdeal.Gen Idealize.ShloMosaic Idealize.ShloMosaic.TcCoe
open Cert.Delta (coe_sum Bounded level scl code rlen dsc)

theorem ite_coe (p : Prop) [Decidable p] (a b : ℝ) : (if p then (a : EReal) else (b : EReal)) = ((if p then a else b : ℝ) : EReal) := by
  split_ifs <;> rfl

theorem ite_coe_zero (p : Prop) [Decidable p] (a : ℝ) : (if p then (a : EReal) else 0) = ((if p then a else 0 : ℝ) : EReal) := by
  split_ifs <;> rfl

/-! Rows and columns. -/

theorem rowOf_at (x : FVec Ideal S64x1 .f32) (j : Fin 64) : rowOf x (ix2 0 j) = x (ix2 j 0) := by
  pointwise [rowOf, eq, ri, ci]
  simp only [sel_eq]
  rw [Finset.sum_ite_eq']
  simp

theorem beta_at (b : FVec Ideal S1x1x64 .f32) (i : Fin 64) : beta (F := Ideal) b (ix2 i 0) = b (ix3 0 0 i) := by
  pointwise [beta, colOf, eq, ri, ci]
  simp only [sel_eq]
  rw [Finset.sum_ite_eq]
  simp

/-! The quantiser. -/

section Quantiser

variable {x : FVec Ideal S64x128 .f32} {f : Fin 64 → Fin 128 → ℝ} (hx : ∀ i d, x (ix2 i d) = ((f i d : ℝ) : EReal)) (hb : ∀ i, Bounded (f i))
include hx hb

theorem field_at (i : Fin 64) : field x (ix2 i 0) = BitVec.ofNat 32 (level (f i) * 8388608) := by
  obtain ⟨y, hy, hl⟩ := Cert.Delta.level_spec (hb i)
  pointwise [field, reached, ns, amax]
  simp only [hx]
  change Finset.fold IntOp.addi 0#32 (fun m : Fin 256 => Scalar.select (IntOp.andi (IntOp.cmpi .sgt (BitVec.ofNat 32 m.val) 0#32)
      (BitVec.ofBool (decide (Ideal.ofBits .f32 (IntOp.shli .vector (BitVec.ofNat 32 m.val) 23#32) ≤ Cert.Delta.reach (f i))))) 8388608#32 0#32)
      Finset.univ = _
  rw [hy]
  exact Cert.Delta.field_eq hl

theorem level_le (i : Fin 64) : level (f i) ≤ 252 := by
  obtain ⟨y, hy, hl⟩ := Cert.Delta.level_spec (hb i)
  exact hl.1

theorem scale_at (i : Fin 64) : scale x (ix2 i 0) = (scl (f i) : EReal) := by
  pointwise [scale, sbits]
  rw [field_at hx hb, Cert.Delta.sbits_eq (level_le hx hb i), Cert.Delta.scale_eq (level_le hx hb i)]
  rfl

theorem codes_at (i : Fin 64) (d : Fin 128) : codes x (ix2 i d) = (code (f i) d : EReal) := by
  pointwise [codes, unscale, sbits]
  rw [field_at hx hb, Cert.Delta.sbits_eq (level_le hx hb i), Cert.Delta.ubits_eq (level_le hx hb i), Cert.Delta.unscale_eq (level_le hx hb i), hx]
  exact Cert.Delta.code_coe d

theorem rk_at (i : Fin 64) : rk x (ix2 i 0) = ((rlen (f i) * scl (f i) : ℝ) : EReal) := by
  pointwise [rk, rnorm]
  rw [scale_at hx hb, EReal.coe_mul]
  simp only [hx]
  rw [Cert.Delta.rsqrt_eq]

theorem rq_at (i : Fin 64) : rq x (ix2 i 0) = ((rlen (f i) * scl (f i) * dsc : ℝ) : EReal) := by
  pointwise [rq]
  rw [rk_at hx hb, Cert.Delta.ofBits_dsc, ← EReal.coe_mul]

end Quantiser

/-! The block inverse. -/

section Inverse

variable {a t : FVec Ideal S64x64 .f32} {A T : Matrix (Fin 64) (Fin 64) ℝ}

theorem double_at (n : ℕ) (d e : BitVec 32) (hm : ∀ i j : Fin 64, mask d e (ix2 i j) = BitVec.ofBool (decide (Low n i j)))
    (ha : ∀ i j, a (ix2 i j) = ((A i j : ℝ) : EReal)) (ht : ∀ i j, t (ix2 i j) = ((T i j : ℝ) : EReal)) (i j : Fin 64) :
    double d e a t (ix2 i j) = ((Cert.Delta.double n A T i j : ℝ) : EReal) := by
  pointwise [double, quarter]
  simp only [hm, select_ofBool, ha, ht, ← EReal.coe_mul, ite_coe_zero, ← coe_sum, ← EReal.coe_sub]
  refine congrArg Real.toEReal ?_
  simp only [Cert.Delta.double, Matrix.sub_apply, Matrix.mul_apply, Cert.Delta.quarter, mul_ite, mul_zero]

theorem inverse_at (ha : ∀ i j, a (ix2 i j) = ((A i j : ℝ) : EReal)) (i j : Fin 64) :
    inverse a (ix2 i j) = ((Cert.Delta.inverse64 A i j : ℝ) : EReal) := by
  unfold inverse Cert.Delta.inverse64
  refine double_at 32 _ _ mask32 ha (double_at 16 _ _ mask16 ha (double_at 8 _ _ mask8 ha (double_at 4 _ _ mask4 ha
    (double_at 2 _ _ mask2 ha fun i j => ?_)))) i j
  pointwise [one, eq, ri, ci, quarter]
  simp only [mask1, select_ofBool, sel_eq, ha, ite_coe_zero]
  rw [show (if i = j then (1 : EReal) else 0) = ((if i = j then (1 : ℝ) else 0 : ℝ) : EReal) by split_ifs <;> rfl, ← EReal.coe_sub]
  refine congrArg Real.toEReal ?_
  simp only [Matrix.sub_apply, Matrix.one_apply, Cert.Delta.quarter]

end Inverse

/-! The gates. -/

section Gates

variable {g : FVec Ideal S1x1x64 .f32} {G : Fin 64 → ℝ} (hg : ∀ j, g (ix3 0 0 j) = ((G j : ℝ) : EReal))
include hg

theorem gsum_at (i : Fin 64) : gsum (F := Ideal) g (ix2 i 0) = ((∑ j : Fin 64, if j ≤ i then G j else 0 : ℝ) : EReal) := by
  pointwise [gsum, ge, ri, ci]
  simp only [sel_ge, hg, ite_coe_zero, ← coe_sum]

theorem glast_at : glast (F := Ideal) g (ix2 0 0) = ((∑ j : Fin 64, if j ≤ 63 then G j else 0 : ℝ) : EReal) := by
  pointwise [glast]
  exact gsum_at hg 63

theorem decay_at (i j : Fin 64) : decay (F := Ideal) g (ix2 i j)
    = ((if j ≤ i then Real.exp ((∑ l : Fin 64, if l ≤ i then G l else 0) - ∑ l : Fin 64, if l ≤ j then G l else 0) else 0 : ℝ) : EReal) := by
  pointwise [decay, ge, ri, ci]
  rw [rowOf_at, gsum_at hg, gsum_at hg, ← EReal.coe_sub]
  simp only [sel_ge]
  split_ifs
  · rfl
  · rfl

end Gates

/-! The whole chunk. -/

section Whole

variable {k q : FVec Ideal S64x128 .f32} {v : FVec Ideal S1x1x64x256 .bf16} {g b : FVec Ideal S1x1x64 .f32} {S : FVec Ideal S1x1x128x256 .f32}
variable {kx qx : Fin 64 → Fin 128 → ℝ} {vx : Fin 64 → Fin 256 → ℝ} {gx bx : Fin 64 → ℝ} {Sx : Fin 128 → Fin 256 → ℝ}

/-- The chunk of the recurrence. -/
def model (kx qx : Fin 64 → Fin 128 → ℝ) (vx : Fin 64 → Fin 256 → ℝ) (gx bx : Fin 64 → ℝ) : Cert.Delta.Chunk (Fin 128) (Fin 256) where
  kc i := code (kx i)
  qc i := code (qx i)
  rk i := rlen (kx i) * scl (kx i)
  rq i := rlen (qx i) * scl (qx i) * dsc
  v := vx
  g := gx
  b := bx

variable (hk : ∀ i d, k (ix2 i d) = ((kx i d : ℝ) : EReal)) (hkb : ∀ i, Bounded (kx i))
variable (hq : ∀ i d, q (ix2 i d) = ((qx i d : ℝ) : EReal)) (hqb : ∀ i, Bounded (qx i))
variable (hv : ∀ i w, v (ix4 0 0 i w) = ((vx i w : ℝ) : EReal))
variable (hg : ∀ j, g (ix3 0 0 j) = ((gx j : ℝ) : EReal)) (hb : ∀ j, b (ix3 0 0 j) = ((bx j : ℝ) : EReal))
variable (hS : ∀ d w, S (ix4 0 0 d w) = ((Sx d w : ℝ) : EReal))

include hk hkb hg hb in
theorem amat_at (i j : Fin 64) : amat (F := Ideal) k g b (ix2 i j) = (((model kx qx vx gx bx).A i j : ℝ) : EReal) := by
  pointwise [amat, gt, ri, ci]
  simp only [sel_gt, beta_at, rk_at hk hkb, codes_at hk hkb, decay_at hg, hb, ← EReal.coe_mul, ← coe_sum, ite_coe_zero]
  rfl

include hk hkb hq hqb hg in
theorem pmat_at (i j : Fin 64) : pmat (F := Ideal) q k g (ix2 i j) = (((model kx qx vx gx bx).P i j : ℝ) : EReal) := by
  pointwise [pmat]
  simp only [rq_at hq hqb, codes_at hk hkb, codes_at hq hqb, decay_at hg, ← EReal.coe_mul, ← coe_sum]
  rfl

include hk hkb hv hg hb hS in
theorem yval_at (i : Fin 64) (w : Fin 256) :
    yval (F := Ideal) k v g b S (ix2 i w) = (((model kx qx vx gx bx).Y Sx i w : ℝ) : EReal) := by
  pointwise [yval, mat]
  simp only [beta_at, rk_at hk hkb, codes_at hk hkb, gsum_at hg, hb, hv, hS, Ideal.exp_coe, ← EReal.coe_mul, ← coe_sum, ← EReal.coe_sub]
  rfl

include hk hkb hv hg hb hS in
theorem vnew_at (i : Fin 64) (w : Fin 256) :
    vnew (F := Ideal) k v g b S (ix2 i w) = (((model kx qx vx gx bx).V Sx i w : ℝ) : EReal) := by
  pointwise [vnew]
  simp only [inverse_at (amat_at (qx := qx) (vx := vx) hk hkb hg hb), yval_at (qx := qx) hk hkb hv hg hb hS, ← EReal.coe_mul, ← coe_sum]
  rfl

include hk hkb hq hqb hv hg hb hS in
theorem out_at (i : Fin 64) (w : Fin 256) :
    out (F := Ideal) k q v g b S (ix2 i w) = (((model kx qx vx gx bx).o Sx i w : ℝ) : EReal) := by
  pointwise [out, mat]
  simp only [rq_at hq hqb, codes_at hq hqb, gsum_at hg, hS, Ideal.exp_coe, pmat_at (vx := vx) (bx := bx) hk hkb hq hqb hg,
    vnew_at (qx := qx) hk hkb hv hg hb hS, ← EReal.coe_mul, ← coe_sum, ← EReal.coe_add]
  rfl

include hk hkb hv hg hb hS in
theorem next_at (d : Fin 128) (w : Fin 256) :
    next (F := Ideal) k v g b S (ix2 d w) = (((model kx qx vx gx bx).next Sx d w : ℝ) : EReal) := by
  pointwise [next, mat]
  simp only [glast_at hg, codes_at hk hkb, gsum_at hg, hS, ← EReal.coe_sub, Ideal.exp_coe,
    vnew_at (qx := qx) hk hkb hv hg hb hS, ← EReal.coe_mul, ← coe_sum, ← EReal.coe_add]
  rfl

end Whole

/-! What the chunk stores. -/

section Stored

variable {kb qb : FVec Ideal S1x1x64x128 .bf16} {v : FVec Ideal S1x1x64x256 .bf16} {g b : FVec Ideal S1x1x64 .f32} {S : FVec Ideal S1x1x128x256 .f32}
variable {kx qx : Fin 64 → Fin 128 → ℝ} {vx : Fin 64 → Fin 256 → ℝ} {gx bx : Fin 64 → ℝ} {Sx : Fin 128 → Fin 256 → ℝ}
variable (hk : ∀ i d, kb (ix4 0 0 i d) = ((kx i d : ℝ) : EReal)) (hkb : ∀ i, Bounded (kx i))
variable (hq : ∀ i d, qb (ix4 0 0 i d) = ((qx i d : ℝ) : EReal)) (hqb : ∀ i, Bounded (qx i))
variable (hv : ∀ i w, v (ix4 0 0 i w) = ((vx i w : ℝ) : EReal))
variable (hg : ∀ j, g (ix3 0 0 j) = ((gx j : ℝ) : EReal)) (hb : ∀ j, b (ix3 0 0 j) = ((bx j : ℝ) : EReal))
variable (hS : ∀ d w, S (ix4 0 0 d w) = ((Sx d w : ℝ) : EReal))

include hk in
theorem wide_at (i : Fin 64) (d : Fin 128) : wide (F := Ideal) kb (ix2 i d) = ((kx i d : ℝ) : EReal) := by
  pointwise [wide]
  exact hk i d

include hk hkb in
theorem pcodes_at (i : Fin 64) (d : Fin 128) : pcodes (F := Ideal) kb (ix4 0 0 i d) = (code (kx i) d : EReal) := by
  pointwise [pcodes]
  exact codes_at (wide_at hk) hkb i d

include hk hkb in
theorem pscale_at (i : Fin 64) : pscale (F := Ideal) kb (ix3 0 0 i) = (scl (kx i) : EReal) := by
  pointwise [pscale]
  rw [rowOf_at]
  exact scale_at (wide_at hk) hkb i

include hk hkb hq hqb hv hg hb hS in
theorem pout_at (i : Fin 64) (w : Fin 256) :
    pout (F := Ideal) v g b S kb qb (ix4 0 0 i w) = (((model kx qx vx gx bx).o Sx i w : ℝ) : EReal) := by
  pointwise [pout]
  exact out_at (wide_at hk) hkb (wide_at hq) hqb hv hg hb hS i w

include hk hkb hv hg hb hS in
theorem pnext_at (d : Fin 128) (w : Fin 256) :
    pnext (F := Ideal) v g b S kb (ix4 0 0 d w) = (((model kx qx vx gx bx).next Sx d w : ℝ) : EReal) := by
  pointwise [pnext]
  exact next_at (wide_at hk) hkb hv hg hb hS d w

end Stored

end Cert.KernelIdeal.Chunk
-- ==== Proof.Readback.lean ====
/-
What one grid point's pieces leave in its blocks, over the reals: the states, outputs, codes and scales of one head.
-/
module

public import proofs.«01_k».proof.Proof.Pieces
public import proofs.«01_k».proof.Proof.ChunkIdeal
public import proofs.«01_k».proof.Proof.Tokens
public import Idealize.ShloMosaic.Lib.Pipeline.ReadBack
public import Idealize.ShloMosaic.Lib.Pipeline.ValueKit

@[expose] public section

set_option maxRecDepth 16384

noncomputable section

namespace Cert.KernelIdeal.Chunk

open Cert.KernelIdeal Cert.KernelIdeal.Gen Idealize.ShloMosaic Idealize.ShloMosaic.TcCoe
open Cert.Delta (Inputs code scl rlen dsc tokenNo)

/-! Where a step's parts lie in the blocks. -/

/-- The batch entry of step `n`. -/
def entry (n : ℕ) : Fin 4 := ⟨n % 4, Nat.mod_lt _ (by decide)⟩

/-- The token at place `i` of step `n`. -/
def place (n : ℕ) (i : Fin 64) : Fin 512 := tokenNo (64 * (n / 4 % 8) + i.val)

theorem place_val (n : ℕ) (i : Fin 64) : (place n i).val = 64 * (n / 4 % 8) + i.val := by
  unfold place tokenNo
  exact Nat.mod_eq_of_lt (by omega)

theorem keysAt_emb (n : ℕ) (i : Fin 64) (d : Fin 128) : (keysAt n).emb (ix4 0 0 i d) = ix4 (entry n) 0 (place n i) d := by
  funext a
  apply Fin.ext
  rw [ValueKit.rect_emb_unit_val]
  fin_cases a
  · exact Nat.add_zero _
  · rfl
  · exact (place_val n i).symm
  · exact Nat.zero_add _

theorem valuesAt_emb (n : ℕ) (i : Fin 64) (d : Fin 256) : (valuesAt n).emb (ix4 0 0 i d) = ix4 (entry n) 0 (place n i) d := by
  funext a
  apply Fin.ext
  rw [ValueKit.rect_emb_unit_val]
  fin_cases a
  · exact Nat.add_zero _
  · rfl
  · exact (place_val n i).symm
  · exact Nat.zero_add _

theorem rowAt_emb (n : ℕ) (i : Fin 64) : (rowAt n).emb (ix3 0 0 i) = ix3 0 (entry n) (place n i) := by
  funext a
  apply Fin.ext
  rw [ValueKit.rect_emb_unit_val]
  fin_cases a
  · rfl
  · exact Nat.add_zero _
  · exact (place_val n i).symm

theorem stateAt_emb (n : ℕ) (d : Fin 128) (w : Fin 256) : (stateAt n).emb (ix4 0 0 d w) = ix4 (entry n) 0 d w := by
  funext a
  apply Fin.ext
  rw [ValueKit.rect_emb_unit_val]
  fin_cases a
  · exact Nat.add_zero _
  · rfl
  · exact Nat.zero_add _
  · exact Nat.zero_add _

theorem keysAt_cases (n : ℕ) (x : (keysAt n).shape.Idx) : ∃ (i : Fin 64) (d : Fin 128), x = ix4 0 0 i d := by
  refine ⟨x 2, x 3, (eq_ix4 (n0 := 1) (n1 := 1) (n2 := 64) (n3 := 128) x).trans ?_⟩
  rw [Subsingleton.elim (α := Fin 1) (x 0) 0, Subsingleton.elim (α := Fin 1) (x 1) 0]

theorem valuesAt_cases (n : ℕ) (x : (valuesAt n).shape.Idx) : ∃ (i : Fin 64) (d : Fin 256), x = ix4 0 0 i d := by
  refine ⟨x 2, x 3, (eq_ix4 (n0 := 1) (n1 := 1) (n2 := 64) (n3 := 256) x).trans ?_⟩
  rw [Subsingleton.elim (α := Fin 1) (x 0) 0, Subsingleton.elim (α := Fin 1) (x 1) 0]

theorem rowAt_cases (n : ℕ) (x : (rowAt n).shape.Idx) : ∃ i : Fin 64, x = ix3 0 0 i := by
  refine ⟨x 2, (eq_ix3 (n0 := 1) (n1 := 1) (n2 := 64) x).trans ?_⟩
  rw [Subsingleton.elim (α := Fin 1) (x 0) 0, Subsingleton.elim (α := Fin 1) (x 1) 0]

/-! One step over the reals. -/

variable (I : Inputs) (h : Fin 10)

/-- How many chunks of batch entry `e` the first `n` steps went over. -/
def chunks (n : ℕ) (e : Fin 4) : ℕ := (n + 3 - e.val) / 4

theorem chunks_entry {n : ℕ} : chunks n (entry n) = n / 4 := by unfold chunks entry; dsimp only; omega

/-- The step's chunk. -/
def modelAt (n : ℕ) : Cert.Delta.Chunk (Fin 128) (Fin 256) :=
  model (fun i => I.k (entry n) (place n i) h) (fun i => I.q (entry n) (place n i) h) (fun i => I.v (entry n) (place n i) h)
    (fun i => I.g (entry n) (place n i) h) (fun i => I.b (entry n) (place n i) h)

theorem modelAt_of {n : ℕ} (hn : n < 32) : (modelAt I h n).Of fun i => I.token (entry n) h (64 * (n / 4) + i) := by
  have hp : ∀ i : Fin 64, tokenNo (64 * (n / 4) + i.val) = place n i := fun i => by
    unfold place
    rw [Nat.mod_eq_of_lt (show n / 4 < 8 by omega)]
  constructor <;> intros <;> simp only [Inputs.token, hp] <;> rfl

variable {I h}
variable {x0 x1 : Vec Ideal S4x1x512x128 .bf16} {x2 : Vec Ideal S4x1x512x256 .bf16} {x3 x4 : Vec Ideal S1x4x512 .f32} {x5 : Vec Ideal S4x1x128x256 .f32}
variable (h0 : ∀ e t d, x0 (ix4 e 0 t d) = ((I.q e t h d : ℝ) : EReal)) (h1 : ∀ e t d, x1 (ix4 e 0 t d) = ((I.k e t h d : ℝ) : EReal))
variable (h2 : ∀ e t w, x2 (ix4 e 0 t w) = ((I.v e t h w : ℝ) : EReal)) (h3 : ∀ e t, x3 (ix3 0 e t) = ((I.g e t h : ℝ) : EReal))
variable (h4 : ∀ e t, x4 (ix3 0 e t) = ((I.b e t h : ℝ) : EReal)) (h5 : ∀ e d w, x5 (ix4 e 0 d w) = ((I.S e h d w : ℝ) : EReal))

theorem ld_at {s : Shape} {e : EltTy} (X : s.Idx → Elt Ideal e) (r : Rect s) (x : r.shape.Idx) : View.ld X r x = X (r.emb x) := rfl

include h0 in
theorem q_at (n : ℕ) (i : Fin 64) (d : Fin 128) : View.ld (Val := Elt Ideal) x0 (keysAt n) (ix4 0 0 i d) = ((I.q (entry n) (place n i) h d : ℝ) : EReal) :=
  (congrArg x0 (keysAt_emb n i d)).trans (h0 _ _ _)
include h1 in
theorem k_at (n : ℕ) (i : Fin 64) (d : Fin 128) : View.ld (Val := Elt Ideal) x1 (keysAt n) (ix4 0 0 i d) = ((I.k (entry n) (place n i) h d : ℝ) : EReal) :=
  (congrArg x1 (keysAt_emb n i d)).trans (h1 _ _ _)
include h2 in
theorem v_at (n : ℕ) (i : Fin 64) (w : Fin 256) : View.ld (Val := Elt Ideal) x2 (valuesAt n) (ix4 0 0 i w) = ((I.v (entry n) (place n i) h w : ℝ) : EReal) :=
  (congrArg x2 (valuesAt_emb n i w)).trans (h2 _ _ _)
include h3 in
theorem g_at (n : ℕ) (i : Fin 64) : View.ld (Val := Elt Ideal) x3 (rowAt n) (ix3 0 0 i) = ((I.g (entry n) (place n i) h : ℝ) : EReal) :=
  (congrArg x3 (rowAt_emb n i)).trans (h3 _ _)
include h4 in
theorem b_at (n : ℕ) (i : Fin 64) : View.ld (Val := Elt Ideal) x4 (rowAt n) (ix3 0 0 i) = ((I.b (entry n) (place n i) h : ℝ) : EReal) :=
  (congrArg x4 (rowAt_emb n i)).trans (h4 _ _)

variable (arg8 : View sig .tc .vmem S4x1x128x256 .f32)

/-- What the first `n` steps leave of the states. -/
def Left (I : Inputs) (h : Fin 10) (L : List (View.Piece (Elt Ideal) S4x1x128x256 .f32)) (n : ℕ) : Prop :=
  ∀ e d w, View.canon L (ix4 e 0 d w) = ((I.stateAt e h (64 * chunks n e) d w : ℝ) : EReal)

/-- The state a step loads is the one after the tokens before its chunk. -/
theorem loaded_at {L : List (View.Piece (Elt Ideal) S4x1x128x256 .f32)} {n : ℕ} (hL : Left I h L n) (d : Fin 128) (w : Fin 256) :
    arg8.readCov L (stateAt n).toLoadRect (ix4 0 0 d w) = ((I.stateAt (entry n) h (64 * (n / 4)) d w : ℝ) : EReal) := by
  rw [View.readCov_eq_canon', ← chunks_entry]
  exact (congrArg (View.canon L) (stateAt_emb n d w)).trans (hL _ _ _)

theorem not_mem_stateAt {n : ℕ} {e : Fin 4} (he : e ≠ entry n) (d : Fin 128) (w : Fin 256) :
    (ix4 e 0 d w : S4x1x128x256.Idx) ∉ (stateAt n).set := by
  rw [Rect.mem_set_unit]
  intro H
  have := H 0
  have h1 : n % 4 ≤ e.val := this.1
  have h2 : e.val < n % 4 + 1 := this.2
  exact he (Fin.ext (show e.val = n % 4 by omega))

/-- A step's piece goes on from what the steps before it left. -/
theorem left_cons {L : List (View.Piece (Elt Ideal) S4x1x128x256 .f32)} {n : ℕ} (hL : Left I h L n) (p : (stateAt n).shape.Idx → Elt Ideal .f32)
    (hp : ∀ d w, p (ix4 0 0 d w) = ((I.stateAt (entry n) h (64 * (n / 4) + 64) d w : ℝ) : EReal)) : Left I h (⟨stateAt n, p⟩ :: L) (n + 1) := by
  intro e d w
  by_cases he : e = entry n
  · subst he
    have hc : 64 * chunks (n + 1) (entry n) = 64 * (n / 4) + 64 := by unfold chunks entry; dsimp only; omega
    rw [hc, ← hp, ← stateAt_emb n d w, View.canon_cons_emb]
  · have hc : chunks (n + 1) e = chunks n e := by
      have : e.val ≠ n % 4 := fun hh => he (Fin.ext hh)
      unfold chunks
      omega
    rw [hc, ← hL e d w]
    exact View.canon_cons_of_not_mem ⟨stateAt n, p⟩ L (not_mem_stateAt he d w)

include h1 h2 h3 h4 in
theorem stored_at {n : ℕ} (hn : n < 32) {S : FVec Ideal S1x1x128x256 .f32}
    (hS : ∀ d w, S (ix4 0 0 d w) = ((I.stateAt (entry n) h (64 * (n / 4)) d w : ℝ) : EReal)) (d : Fin 128) (w : Fin 256) :
    pnext (F := Ideal) (View.ld (Val := Elt Ideal) x2 (valuesAt n)) (View.ld (Val := Elt Ideal) x3 (rowAt n)) (View.ld (Val := Elt Ideal) x4 (rowAt n)) S
      (View.ld (Val := Elt Ideal) x1 (keysAt n)) (ix4 0 0 d w) = ((I.stateAt (entry n) h (64 * (n / 4) + 64) d w : ℝ) : EReal) := by
  refine (pnext_at (qx := fun i => I.q (entry n) (place n i) h) (k_at h1 n) (fun i => I.kb _ _ _) (v_at h2 n) (g_at h3 n) (b_at h4 n)
    hS d w).trans (congrArg Real.toEReal ?_)
  unfold Inputs.stateAt
  rw [Cert.Delta.state_add]
  exact congrFun (congrFun (Cert.Delta.Chunk.next_eq _ (modelAt_of I h hn)) d) w

include h1 h2 h3 h4 h5 in
theorem states_left : ∀ n, n ≤ 32 → Left I h (states (F := Ideal) arg8 x1 x2 x3 x4 x5 n) n
  | 0, _ => fun e d w => by
    have hz : (![0, 0, 0, 0] : Fin 4 → ℕ) = fun _ => 0 := funext fun a => by fin_cases a <;> rfl
    unfold states
    rw [View.canon_unit_zero hz, View.ld_unit_zero hz, h5]
    have : chunks 0 e = 0 := by unfold chunks; omega
    rw [this]
    rfl
  | n + 1, hn => by
    have ih := states_left n (by omega)
    exact left_cons ih _ (stored_at h1 h2 h3 h4 (show n < 32 by omega) (loaded_at arg8 ih))

/-- The output block. -/
def outBlock (I : Inputs) (h : Fin 10) : S4x1x512x256.Idx → Elt Ideal .bf16 := fun y => ((I.outputAt (y 0) h (y 2).val (y 3) : ℝ) : EReal)

/-- The block of codes of `x`. -/
def codeBlock (x : Fin 4 → Fin 512 → Fin 10 → Fin 128 → ℝ) (h : Fin 10) : S4x1x512x128.Idx → Elt Ideal .fp8e4m3 :=
  fun y => (code (x (y 0) (y 2) h) (y 3) : EReal)

/-- The block of scales of `x`. -/
def scaleBlock (x : Fin 4 → Fin 512 → Fin 10 → Fin 128 → ℝ) (h : Fin 10) : S1x4x512.Idx → Elt Ideal .f32 :=
  fun y => (scl (x (y 1) (y 2) h) : EReal)

include h0 h1 h2 h3 h4 h5 in
theorem outs_pieces : ∀ n, n ≤ 32 → View.PiecesOf (outBlock I h) (outs (F := Ideal) arg8 x0 x1 x2 x3 x4 x5 n)
  | 0, _ => trivial
  | n + 1, hn => by
    refine ⟨fun x => ?_, outs_pieces n (by omega)⟩
    obtain ⟨i, w, rfl⟩ := valuesAt_cases n x
    refine (pout_at (k_at h1 n) (fun i => I.kb _ _ _) (q_at h0 n) (fun i => I.qb _ _ _) (v_at h2 n) (g_at h3 n) (b_at h4 n)
      (loaded_at arg8 (states_left h1 h2 h3 h4 h5 arg8 n (by omega))) i w).trans ?_
    refine Eq.trans ?_ (congrArg (outBlock I h) (valuesAt_emb n i w)).symm
    refine congrArg Real.toEReal ?_
    show _ = Cert.Delta.output _ _ (place n i).val w
    rw [place_val, Nat.mod_eq_of_lt (show n / 4 < 8 by omega), Cert.Delta.output_add]
    exact Cert.Delta.Chunk.o_eq _ (modelAt_of I h (show n < 32 by omega)) i w

theorem codes_pieces {x : Vec Ideal S4x1x512x128 .bf16} {f : Fin 4 → Fin 512 → Fin 10 → Fin 128 → ℝ}
    (hx : ∀ e t d, x (ix4 e 0 t d) = ((f e t h d : ℝ) : EReal)) (hf : ∀ e t h, Cert.Delta.Bounded (f e t h)) :
    ∀ n, View.PiecesOf (codeBlock f h) (codesOf (F := Ideal) x n)
  | 0 => trivial
  | n + 1 => by
    refine ⟨fun y => ?_, codes_pieces hx hf n⟩
    obtain ⟨i, d, rfl⟩ := keysAt_cases n y
    refine (pcodes_at (fun i d => (congrArg x (keysAt_emb n i d)).trans (hx _ _ _)) (fun i => hf _ _ _) i d).trans ?_
    exact (congrArg (codeBlock f h) (keysAt_emb n i d)).symm

theorem scales_pieces {x : Vec Ideal S4x1x512x128 .bf16} {f : Fin 4 → Fin 512 → Fin 10 → Fin 128 → ℝ}
    (hx : ∀ e t d, x (ix4 e 0 t d) = ((f e t h d : ℝ) : EReal)) (hf : ∀ e t h, Cert.Delta.Bounded (f e t h)) :
    ∀ n, View.PiecesOf (scaleBlock f h) (scalesOf (F := Ideal) x n)
  | 0 => trivial
  | n + 1 => by
    refine ⟨fun y => ?_, scales_pieces hx hf n⟩
    obtain ⟨i, rfl⟩ := rowAt_cases n y
    refine (pscale_at (fun i d => (congrArg x (keysAt_emb n i d)).trans (hx _ _ _)) (fun i => hf _ _ _) i).trans ?_
    exact (congrArg (scaleBlock f h) (rowAt_emb n i)).symm

/-- Pieces that are parts of `G` and cover the block leave `G`. -/
theorem canon_eq {s : Shape} {e : EltTy} {G : s.Idx → Elt Ideal e} {L : List (View.Piece (Elt Ideal) s e)} (hL : View.PiecesOf G L)
    (hc : ∀ y, ∃ p ∈ L, y ∈ p.1.set) : View.canon L = G := by
  funext y
  have := View.canon_append_of_piecesOf G [] L hL y (hc y)
  rwa [List.append_nil] at this

end Cert.KernelIdeal.Chunk
-- ==== Proof.Arrays.lean ====
/-
The kernel's six result arrays over the reals.
-/
module

public import proofs.«01_k».proof.Proof.Gen.KernelIdeal.Value
public import proofs.«01_k».proof.Proof.Readback

@[expose] public section

set_option maxRecDepth 16384

noncomputable section

namespace Cert.KernelIdeal.Arrays

open Cert.KernelIdeal Cert.KernelIdeal.Gen Cert.KernelIdeal.Chunk Idealize.ShloMosaic Idealize.ShloMosaic.TcCoe Idealize.SL.Sem
open Idealize.ShloMosaic.Pipeline (Dat)
open Cert.Delta (Inputs code scl)

/-- The head a grid point works on. -/
def head (t : Fin cfg0.N) : Fin 10 := ⟨t.val, N_0 ▸ t.isLt⟩

theorem idx0 : ∀ t : Fin cfg0.N, win0_0.index t = ![0, t.val, 0, 0] := (by decide +kernel : ∀ t : Fin grid0.N, _)
theorem idx1 : ∀ t : Fin cfg0.N, win0_1.index t = ![0, t.val, 0, 0] := (by decide +kernel : ∀ t : Fin grid0.N, _)
theorem idx2 : ∀ t : Fin cfg0.N, win0_2.index t = ![0, t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![0, t.val, 0, 0] := (by decide +kernel : ∀ t : Fin grid0.N, _)
theorem idx6 : ∀ t : Fin cfg0.N, win0_6.index t = ![0, t.val, 0, 0] := (by decide +kernel : ∀ t : Fin grid0.N, _)
theorem idx7 : ∀ t : Fin cfg0.N, win0_7.index t = ![0, t.val, 0, 0] := (by decide +kernel : ∀ t : Fin grid0.N, _)
theorem idx8 : ∀ t : Fin cfg0.N, win0_8.index t = ![0, t.val, 0, 0] := (by decide +kernel : ∀ t : Fin grid0.N, _)
theorem idx9 : ∀ t : Fin cfg0.N, win0_9.index t = ![t.val, 0, 0] := (by decide +kernel : ∀ t : Fin grid0.N, _)
theorem idx10 : ∀ t : Fin cfg0.N, win0_10.index t = ![0, t.val, 0, 0] := (by decide +kernel : ∀ t : Fin grid0.N, _)
theorem idx11 : ∀ t : Fin cfg0.N, win0_11.index t = ![t.val, 0, 0] := (by decide +kernel : ∀ t : Fin grid0.N, _)

variable (m : (ℓ : Loc nD τ sig) → Buf (Elt Ideal) ℓ) (c : Dev nD)

/-! The blocks handed to a grid point, at coordinates. -/

theorem block0 (t : Fin cfg0.N) (e : Fin 4) (s : Fin 512) (d : Fin 128) :
    iblk m c 0 t (ix4 e 0 s d) = m ((c : Thread nD τ).loc main_arg0) (ix4 e s (head t) d) := by
  blk_simp [iblk]
  entry_read
  pointwise
  blk_ext [idx0 t, head]

theorem block1 (t : Fin cfg0.N) (e : Fin 4) (s : Fin 512) (d : Fin 128) :
    iblk m c 1 t (ix4 e 0 s d) = m ((c : Thread nD τ).loc main_arg1) (ix4 e s (head t) d) := by
  blk_simp [iblk]
  entry_read
  pointwise
  blk_ext [idx1 t, head]

theorem block2 (t : Fin cfg0.N) (e : Fin 4) (s : Fin 512) (w : Fin 256) :
    iblk m c 2 t (ix4 e 0 s w) = m ((c : Thread nD τ).loc main_arg2) (ix4 e s (head t) w) := by
  blk_simp [iblk]
  entry_read
  pointwise
  blk_ext [idx2 t, head]

theorem block3 (t : Fin cfg0.N) (e : Fin 4) (s : Fin 512) :
    iblk m c 3 t (ix3 0 e s) = m ((c : Thread nD τ).loc main_arg3) (ix3 e s (head t)) := by
  blk_simp [iblk]
  entry_read
  pointwise
  blk_ext [idx3 t, head]

theorem block4 (t : Fin cfg0.N) (e : Fin 4) (s : Fin 512) :
    iblk m c 4 t (ix3 0 e s) = m ((c : Thread nD τ).loc main_arg4) (ix3 e s (head t)) := by
  blk_simp [iblk]
  entry_read
  pointwise
  blk_ext [idx4 t, head]

theorem block5 (t : Fin cfg0.N) (e : Fin 4) (d : Fin 128) (w : Fin 256) :
    iblk m c 5 t (ix4 e 0 d w) = m ((c : Thread nD τ).loc main_arg5) (ix4 e (head t) d w) := by
  blk_simp [iblk]
  rw [V_main_arg5]
  blk_ext [idx5 t, head]

/-! What a grid point leaves in its result blocks. -/

variable {I : Inputs}
variable (hq : ∀ b t h d, m ((c : Thread nD τ).loc main_arg0) (ix4 b t h d) = ((I.q b t h d : ℝ) : EReal))
variable (hk : ∀ b t h d, m ((c : Thread nD τ).loc main_arg1) (ix4 b t h d) = ((I.k b t h d : ℝ) : EReal))
variable (hv : ∀ b t h w, m ((c : Thread nD τ).loc main_arg2) (ix4 b t h w) = ((I.v b t h w : ℝ) : EReal))
variable (hg : ∀ b t h, m ((c : Thread nD τ).loc main_arg3) (ix3 b t h) = ((I.g b t h : ℝ) : EReal))
variable (hb : ∀ e t h, m ((c : Thread nD τ).loc main_arg4) (ix3 e t h) = ((I.b e t h : ℝ) : EReal))
variable (hS : ∀ b h d w, m ((c : Thread nD τ).loc main_arg5) (ix4 b h d w) = ((I.S b h d w : ℝ) : EReal))

/-- The block of final states. -/
def stateBlock (I : Inputs) (h : Fin 10) : S4x1x128x256.Idx → Elt Ideal .f32 := fun y => ((I.stateAt (y 0) h 512 (y 2) (y 3) : ℝ) : EReal)

include hq hk hv hg hb hS in
theorem left6 (t : Fin cfg0.N) : (outsAt0 m c t).1 = outBlock I (head t) := by
  unfold outsAt0 out0_A_6
  dsimp only
  rw [View.read_writes_junk_eq_canon]
  refine canon_eq ?_ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t))
  rw [run_outs]
  simp only [back, Memref.IsWhole.read_unread]
  exact outs_pieces (fun e s d => (block0 m c t e s d).trans (hq e s _ d)) (fun e s d => (block1 m c t e s d).trans (hk e s _ d)) (fun e s w => (block2 m c t e s w).trans (hv e s _ w)) (fun e s => (block3 m c t e s).trans (hg e s _)) (fun e s => (block4 m c t e s).trans (hb e s _)) (fun e d w => (block5 m c t e d w).trans (hS e _ d w)) (ms0_7 t).view 32 (le_refl 32)

include hk hv hg hb hS in
theorem left7 (t : Fin cfg0.N) : (outsAt0 m c t).2.1 = stateBlock I (head t) := by
  unfold outsAt0 out0_A_7
  dsimp only
  rw [View.read_writes_junk_eq_canon, run_states]
  simp only [back, Memref.IsWhole.read_unread]
  funext y
  obtain ⟨e, d, w, rfl⟩ : ∃ (e : Fin 4) (d : Fin 128) (w : Fin 256), y = ix4 e 0 d w := by
    refine ⟨y 0, y 2, y 3, (eq_ix4 (n0 := 4) (n1 := 1) (n2 := 128) (n3 := 256) y).trans ?_⟩
    rw [Subsingleton.elim (α := Fin 1) (y 1) 0]
  refine (states_left (fun e s d => (block1 m c t e s d).trans (hk e s _ d)) (fun e s w => (block2 m c t e s w).trans (hv e s _ w)) (fun e s => (block3 m c t e s).trans (hg e s _)) (fun e s => (block4 m c t e s).trans (hb e s _)) (fun e d w => (block5 m c t e d w).trans (hS e _ d w)) (ms0_7 t).view 32 (le_refl 32) e d w).trans (congrArg Real.toEReal ?_)
  have : 64 * chunks 32 e = 512 := by unfold chunks; omega
  rw [this]
  rfl

include hk in
theorem left8 (t : Fin cfg0.N) : (outsAt0 m c t).2.2.1 = codeBlock I.k (head t) := by
  unfold outsAt0 out0_A_8
  dsimp only
  rw [View.read_writes_junk_eq_canon]
  refine canon_eq ?_ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t))
  rw [run_codes_k]
  simp only [back, Memref.IsWhole.read_unread]
  exact codes_pieces (fun e s d => (block1 m c t e s d).trans (hk e s _ d)) I.kb 32

include hk in
theorem left9 (t : Fin cfg0.N) : (outsAt0 m c t).2.2.2.1 = scaleBlock I.k (head t) := by
  unfold outsAt0 out0_A_9
  dsimp only
  rw [View.read_writes_junk_eq_canon]
  refine canon_eq ?_ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t))
  rw [run_scales_k]
  simp only [back, Memref.IsWhole.read_unread]
  exact scales_pieces (fun e s d => (block1 m c t e s d).trans (hk e s _ d)) I.kb 32

include hq in
theorem left10 (t : Fin cfg0.N) : (outsAt0 m c t).2.2.2.2.1 = codeBlock I.q (head t) := by
  unfold outsAt0 out0_A_10
  dsimp only
  rw [View.read_writes_junk_eq_canon]
  refine canon_eq ?_ (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t))
  rw [run_codes_q]
  simp only [back, Memref.IsWhole.read_unread]
  exact codes_pieces (fun e s d => (block0 m c t e s d).trans (hq e s _ d)) I.qb 32

include hq in
theorem left11 (t : Fin cfg0.N) : (outsAt0 m c t).2.2.2.2.2 = scaleBlock I.q (head t) := by
  unfold outsAt0 out0_A_11
  dsimp only
  rw [View.read_writes_junk_eq_canon]
  refine canon_eq ?_ (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t))
  rw [run_scales_q]
  simp only [back, Memref.IsWhole.read_unread]
  exact scales_pieces (fun e s d => (block0 m c t e s d).trans (hq e s _ d)) I.qb 32

/-! The result arrays. -/

/-- The outputs. -/
def outArr (I : Inputs) : S4x10x512x256.Idx → Elt Ideal .bf16 := fun y => ((I.outputAt (y 0) (y 1) (y 2).val (y 3) : ℝ) : EReal)
/-- The final states. -/
def stateArr (I : Inputs) : S4x10x128x256.Idx → Elt Ideal .f32 := fun y => ((I.stateAt (y 0) (y 1) 512 (y 2) (y 3) : ℝ) : EReal)
/-- The codes of `x`. -/
def codeArr (x : Fin 4 → Fin 512 → Fin 10 → Fin 128 → ℝ) : S4x10x512x128.Idx → Elt Ideal .fp8e4m3 := fun y => (code (x (y 0) (y 2) (y 1)) (y 3) : EReal)
/-- The scales of `x`. -/
def scaleArr (x : Fin 4 → Fin 512 → Fin 10 → Fin 128 → ℝ) : S10x4x512.Idx → Elt Ideal .f32 := fun y => (scl (x (y 1) (y 2) (y 0)) : EReal)

include hq hk hv hg hb hS in
theorem arr6 : (dats m 0 c).arrAt 6 cfg0.N = outArr I := by
  refine (dats m 0 c).arrAt_eq_of_covers 6 _ (by decide +kernel) fun t hf y => ?_
  blk_simp
  rw [after0_6, left6 m c hq hk hv hg hb hS t]
  have e : ((win0_6.blk t).view.emb y : S4x10x512x256.Idx) = ix4 (y 0) (head t) (y 2) (y 3) := by
    blk_ext [idx6 t, head]
  rw [e]
  rfl

include hk hv hg hb hS in
theorem arr7 : (dats m 0 c).arrAt 7 cfg0.N = stateArr I := by
  refine (dats m 0 c).arrAt_eq_of_covers 7 _ (by decide +kernel) fun t hf y => ?_
  blk_simp
  rw [after0_7, left7 m c hk hv hg hb hS t]
  have e : ((win0_7.blk t).view.emb y : S4x10x128x256.Idx) = ix4 (y 0) (head t) (y 2) (y 3) := by
    blk_ext [idx7 t, head]
  rw [e]
  rfl

include hk in
theorem arr8 : (dats m 0 c).arrAt 8 cfg0.N = codeArr I.k := by
  refine (dats m 0 c).arrAt_eq_of_covers 8 _ (by decide +kernel) fun t hf y => ?_
  blk_simp
  rw [after0_8, left8 m c hk t]
  have e : ((win0_8.blk t).view.emb y : S4x10x512x128.Idx) = ix4 (y 0) (head t) (y 2) (y 3) := by
    blk_ext [idx8 t, head]
  rw [e]
  rfl

include hk in
theorem arr9 : (dats m 0 c).arrAt 9 cfg0.N = scaleArr I.k := by
  refine (dats m 0 c).arrAt_eq_of_covers 9 _ (by decide +kernel) fun t hf y => ?_
  blk_simp
  rw [after0_9, left9 m c hk t]
  have e : ((win0_9.blk t).view.emb y : S10x4x512.Idx) = ix3 (head t) (y 1) (y 2) := by
    blk_ext [idx9 t, head]
  rw [e]
  rfl

include hq in
theorem arr10 : (dats m 0 c).arrAt 10 cfg0.N = codeArr I.q := by
  refine (dats m 0 c).arrAt_eq_of_covers 10 _ (by decide +kernel) fun t hf y => ?_
  blk_simp
  rw [after0_10, left10 m c hq t]
  have e : ((win0_10.blk t).view.emb y : S4x10x512x128.Idx) = ix4 (y 0) (head t) (y 2) (y 3) := by
    blk_ext [idx10 t, head]
  rw [e]
  rfl

include hq in
theorem arr11 : (dats m 0 c).arrAt 11 cfg0.N = scaleArr I.q := by
  refine (dats m 0 c).arrAt_eq_of_covers 11 _ (by decide +kernel) fun t hf y => ?_
  blk_simp
  rw [after0_11, left11 m c hq t]
  have e : ((win0_11.blk t).view.emb y : S10x4x512.Idx) = ix3 (head t) (y 1) (y 2) := by
    blk_ext [idx11 t, head]
  rw [e]
  rfl

end Cert.KernelIdeal.Arrays
-- ==== Proof.StepRun.lean ====
/-
The reference's run as its step iterated. A valuation that holds a state holds the next state after one trip of the loop; what the
program leaves before the loop holds the first state; the results are fields of the last one. (The generated module of the same name,
with the proof of `step_7` closed by `exact`.)
-/
module

public import proofs.«01_k».proof.Proof.Gen.ReferenceIdeal.Run
public import proofs.«01_k».proof.Proof.Gen.ReferenceIdeal.Step

@[expose] public section

noncomputable section

namespace Cert.ReferenceIdeal.Steps

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v38_6) = s.main_v38_6
  f_7 : V0 (Proc.devRef .tc main_v38_7) = s.main_v38_7
  f_0 : V0 (Proc.devRef .tc main_v38_0) = s.main_v38_0
  f_1 : V0 (Proc.devRef .tc main_v38_1) = s.main_v38_1
  f_2 : V0 (Proc.devRef .tc main_v38_2) = s.main_v38_2
  f_3 : V0 (Proc.devRef .tc main_v38_3) = s.main_v38_3
  f_4 : V0 (Proc.devRef .tc main_v38_4) = s.main_v38_4
  n_5 : V0 (Proc.devRef .tc main_v38_5) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x4x10x128 (V0 (Proc.devRef .tc main_v38_0)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x128_S1x4x10x128 : (Proc.devRef .tc main_while0b_call0_v0 : DevRef τ sig).ty.Contents (Elt F)) = Cert.ReferenceIdeal.Step.b3 j s := by
  unfold Cert.ReferenceIdeal.Step.b3
  rw [← al_0 h, ← al_1 h, ← al_2 h, h.f_0, h.n_5]
  try rfl
set_option maxRecDepth 8192 in
theorem al_4 (h : Holds V0 s j) : (shapeCast S4x10x128 (Host.dynamicSlice S1x4x10x128 (V0 (Proc.devRef .tc main_v38_0)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x128_S1x4x10x128) shapeCasts_S1x4x10x128_S4x10x128 : (Proc.devRef .tc main_while0b_v45 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call1_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x4x10x128 (V0 (Proc.devRef .tc main_v38_1)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x128_S1x4x10x128 : (Proc.devRef .tc main_while0b_call1_v0 : DevRef τ sig).ty.Contents (Elt F)) = Cert.ReferenceIdeal.Step.b8 j s := by
  unfold Cert.ReferenceIdeal.Step.b8
  rw [← al_5 h, ← al_6 h, ← al_7 h, h.f_1, h.n_5]
  try rfl
set_option maxRecDepth 8192 in
theorem al_9 (h : Holds V0 s j) : (res_main_while0b_v46 V0 : (Proc.devRef .tc main_while0b_v46 : DevRef τ sig).ty.Contents (Elt F)) = Cert.ReferenceIdeal.Step.b9 j s := by
  unfold res_main_while0b_v46 Cert.ReferenceIdeal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call2_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call2_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x4x10x256 (V0 (Proc.devRef .tc main_v38_2)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x256_S1x4x10x256 : (Proc.devRef .tc main_while0b_call2_v0 : DevRef τ sig).ty.Contents (Elt F)) = Cert.ReferenceIdeal.Step.b13 j s := by
  unfold Cert.ReferenceIdeal.Step.b13
  rw [← al_10 h, ← al_11 h, ← al_12 h, h.f_2, h.n_5]
  try rfl
set_option maxRecDepth 8192 in
theorem al_14 (h : Holds V0 s j) : (shapeCast S4x10x256 (Host.dynamicSlice S1x4x10x256 (V0 (Proc.devRef .tc main_v38_2)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x256_S1x4x10x256) shapeCasts_S1x4x10x256_S4x10x256 : (Proc.devRef .tc main_while0b_v47 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call3_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call3_c_0 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x4x10 (V0 (Proc.devRef .tc main_v38_3)) (fun k => (((![V0 (Proc.devRef .tc main_v38_5), constantI S_ 32 0#32, constantI S_ 32 0#32] : Fin 3 → (⟨S_, .i32⟩ : BufTy).Contents (Elt F))) k (Shape.Idx.first h_S_)).toInt) sliceFits_S512x4x10_S1x4x10 : (Proc.devRef .tc main_while0b_call3_v0 : DevRef τ sig).ty.Contents (Elt F)) = Cert.ReferenceIdeal.Step.b17 j s := by
  unfold Cert.ReferenceIdeal.Step.b17
  rw [← al_15 h, ← al_16 h, h.f_3, h.n_5]
  try rfl
set_option maxRecDepth 8192 in
theorem al_18 (h : Holds V0 s j) : (shapeCast S4x10 (Host.dynamicSlice S1x4x10 (V0 (Proc.devRef .tc main_v38_3)) (fun k => (((![V0 (Proc.devRef .tc main_v38_5), constantI S_ 32 0#32, constantI S_ 32 0#32] : Fin 3 → (⟨S_, .i32⟩ : BufTy).Contents (Elt F))) k (Shape.Idx.first h_S_)).toInt) sliceFits_S512x4x10_S1x4x10) shapeCasts_S1x4x10_S4x10 : (Proc.devRef .tc main_while0b_v48 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (constantI S_ 32 0#32 : (Proc.devRef .tc main_while0b_call4_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call4_c_0 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x4x10 (V0 (Proc.devRef .tc main_v38_4)) (fun k => (((![V0 (Proc.devRef .tc main_v38_5), constantI S_ 32 0#32, constantI S_ 32 0#32] : Fin 3 → (⟨S_, .i32⟩ : BufTy).Contents (Elt F))) k (Shape.Idx.first h_S_)).toInt) sliceFits_S512x4x10_S1x4x10 : (Proc.devRef .tc main_while0b_call4_v0 : DevRef τ sig).ty.Contents (Elt F)) = Cert.ReferenceIdeal.Step.b21 j s := by
  unfold Cert.ReferenceIdeal.Step.b21
  rw [← al_19 h, ← al_20 h, h.f_4, h.n_5]
  try rfl
set_option maxRecDepth 8192 in
theorem al_22 (h : Holds V0 s j) : (shapeCast S4x10 (Host.dynamicSlice S1x4x10 (V0 (Proc.devRef .tc main_v38_4)) (fun k => (((![V0 (Proc.devRef .tc main_v38_5), constantI S_ 32 0#32, constantI S_ 32 0#32] : Fin 3 → (⟨S_, .i32⟩ : BufTy).Contents (Elt F))) k (Shape.Idx.first h_S_)).toInt) sliceFits_S512x4x10_S1x4x10) shapeCasts_S1x4x10_S4x10 : (Proc.devRef .tc main_while0b_v49 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (Host.exp (shapeCast S4x10 (Host.dynamicSlice S1x4x10 (V0 (Proc.devRef .tc main_v38_3)) (fun k => (((![V0 (Proc.devRef .tc main_v38_5), constantI S_ 32 0#32, constantI S_ 32 0#32] : Fin 3 → (⟨S_, .i32⟩ : BufTy).Contents (Elt F))) k (Shape.Idx.first h_S_)).toInt) sliceFits_S512x4x10_S1x4x10) shapeCasts_S1x4x10_S4x10) : (Proc.devRef .tc main_while0b_v50 : DevRef τ sig).ty.Contents (Elt F)) = Cert.ReferenceIdeal.Step.b23 j s := by
  unfold Cert.ReferenceIdeal.Step.b23
  rw [← al_18 h]
  try rfl
set_option maxRecDepth 8192 in
theorem al_24 (h : Holds V0 s j) : (broadcastInDim S4x10x1x1 ![0, 1] bcast_S4x10_S4x10x1x1_0_1 (Host.exp (shapeCast S4x10 (Host.dynamicSlice S1x4x10 (V0 (Proc.devRef .tc main_v38_3)) (fun k => (((![V0 (Proc.devRef .tc main_v38_5), constantI S_ 32 0#32, constantI S_ 32 0#32] : Fin 3 → (⟨S_, .i32⟩ : BufTy).Contents (Elt F))) k (Shape.Idx.first h_S_)).toInt) sliceFits_S512x4x10_S1x4x10) shapeCasts_S1x4x10_S4x10)) : (Proc.devRef .tc main_while0b_v51 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (broadcastInDim S4x10x128x256 ![0, 1, 2, 3] bcast_S4x10x1x1_S4x10x128x256_0_1_2_3 (broadcastInDim S4x10x1x1 ![0, 1] bcast_S4x10_S4x10x1x1_0_1 (Host.exp (shapeCast S4x10 (Host.dynamicSlice S1x4x10 (V0 (Proc.devRef .tc main_v38_3)) (fun k => (((![V0 (Proc.devRef .tc main_v38_5), constantI S_ 32 0#32, constantI S_ 32 0#32] : Fin 3 → (⟨S_, .i32⟩ : BufTy).Contents (Elt F))) k (Shape.Idx.first h_S_)).toInt) sliceFits_S512x4x10_S1x4x10) shapeCasts_S1x4x10_S4x10))) : (Proc.devRef .tc main_while0b_v52 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (res_main_while0b_v53 V0 : (Proc.devRef .tc main_while0b_v53 : DevRef τ sig).ty.Contents (Elt F)) = Cert.ReferenceIdeal.Step.b26 j s := by
  unfold res_main_while0b_v53 Cert.ReferenceIdeal.Step.b26
  rw [← al_25 h, h.f_6]
  try rfl
set_option maxRecDepth 8192 in
theorem al_27 (h : Holds V0 s j) : (broadcastInDim S4x10x128x1 ![0, 1, 2] bcast_S4x10x128_S4x10x128x1_0_1_2 (res_main_while0b_v46 V0) : (Proc.devRef .tc main_while0b_v54 : DevRef τ sig).ty.Contents (Elt F)) = Cert.ReferenceIdeal.Step.b27 j s := by
  unfold Cert.ReferenceIdeal.Step.b27
  rw [← al_9 h]
  try rfl
set_option maxRecDepth 8192 in
theorem al_28 (h : Holds V0 s j) : (broadcastInDim S4x10x128x256 ![0, 1, 2, 3] bcast_S4x10x128x1_S4x10x128x256_0_1_2_3 (broadcastInDim S4x10x128x1 ![0, 1, 2] bcast_S4x10x128_S4x10x128x1_0_1_2 (res_main_while0b_v46 V0)) : (Proc.devRef .tc main_while0b_v55 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (mulf (broadcastInDim S4x10x128x256 ![0, 1, 2, 3] bcast_S4x10x128x1_S4x10x128x256_0_1_2_3 (broadcastInDim S4x10x128x1 ![0, 1, 2] bcast_S4x10x128_S4x10x128x1_0_1_2 (res_main_while0b_v46 V0))) (res_main_while0b_v53 V0) : (Proc.devRef .tc main_while0b_v56 : DevRef τ sig).ty.Contents (Elt F)) = Cert.ReferenceIdeal.Step.b29 j s := by
  unfold Cert.ReferenceIdeal.Step.b29
  rw [← al_28 h, ← al_26 h]
  try rfl
set_option maxRecDepth 8192 in
theorem al_30 (h : Holds V0 s j) : (constant S_ .f32 0x00000000#32 : (Proc.devRef .tc main_while0b_cst_14 : DevRef τ sig).ty.Contents (Elt F)) = Cert.ReferenceIdeal.Step.b30 j s := by
  unfold Cert.ReferenceIdeal.Step.b30
  rfl
set_option maxRecDepth 8192 in
theorem al_31 (h : Holds V0 s j) : (Host.reduceAdd (mulf (broadcastInDim S4x10x128x256 ![0, 1, 2, 3] bcast_S4x10x128x1_S4x10x128x256_0_1_2_3 (broadcastInDim S4x10x128x1 ![0, 1, 2] bcast_S4x10x128_S4x10x128x1_0_1_2 (res_main_while0b_v46 V0))) (res_main_while0b_v53 V0)) (constant S_ .f32 0x00000000#32) reducesTo_S4x10x128x256_S4x10x256_d2 h_S_ : (Proc.devRef .tc main_while0b_v57 : DevRef τ sig).ty.Contents (Elt F)) = Cert.ReferenceIdeal.Step.b31 j s := by
  unfold Cert.ReferenceIdeal.Step.b31
  rw [← al_29 h, ← al_30 h]
  try rfl
set_option maxRecDepth 8192 in
theorem al_32 (h : Holds V0 s j) : (broadcastInDim S4x10x1 ![0, 1] bcast_S4x10_S4x10x1_0_1 (shapeCast S4x10 (Host.dynamicSlice S1x4x10 (V0 (Proc.devRef .tc main_v38_4)) (fun k => (((![V0 (Proc.devRef .tc main_v38_5), constantI S_ 32 0#32, constantI S_ 32 0#32] : Fin 3 → (⟨S_, .i32⟩ : BufTy).Contents (Elt F))) k (Shape.Idx.first h_S_)).toInt) sliceFits_S512x4x10_S1x4x10) shapeCasts_S1x4x10_S4x10) : (Proc.devRef .tc main_while0b_v58 : DevRef τ sig).ty.Contents (Elt F)) = Cert.ReferenceIdeal.Step.b32 j s := by
  unfold Cert.ReferenceIdeal.Step.b32
  rw [← al_22 h]
  try rfl
set_option maxRecDepth 8192 in
theorem al_33 (h : Holds V0 s j) : (subf (shapeCast S4x10x256 (Host.dynamicSlice S1x4x10x256 (V0 (Proc.devRef .tc main_v38_2)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x256_S1x4x10x256) shapeCasts_S1x4x10x256_S4x10x256) (Host.reduceAdd (mulf (broadcastInDim S4x10x128x256 ![0, 1, 2, 3] bcast_S4x10x128x1_S4x10x128x256_0_1_2_3 (broadcastInDim S4x10x128x1 ![0, 1, 2] bcast_S4x10x128_S4x10x128x1_0_1_2 (res_main_while0b_v46 V0))) (res_main_while0b_v53 V0)) (constant S_ .f32 0x00000000#32) reducesTo_S4x10x128x256_S4x10x256_d2 h_S_) : (Proc.devRef .tc main_while0b_v59 : DevRef τ sig).ty.Contents (Elt F)) = Cert.ReferenceIdeal.Step.b33 j s := by
  unfold Cert.ReferenceIdeal.Step.b33
  rw [← al_14 h, ← al_31 h]
  try rfl
set_option maxRecDepth 8192 in
theorem al_34 (h : Holds V0 s j) : (broadcastInDim S4x10x256 ![0, 1, 2] bcast_S4x10x1_S4x10x256_0_1_2 (broadcastInDim S4x10x1 ![0, 1] bcast_S4x10_S4x10x1_0_1 (shapeCast S4x10 (Host.dynamicSlice S1x4x10 (V0 (Proc.devRef .tc main_v38_4)) (fun k => (((![V0 (Proc.devRef .tc main_v38_5), constantI S_ 32 0#32, constantI S_ 32 0#32] : Fin 3 → (⟨S_, .i32⟩ : BufTy).Contents (Elt F))) k (Shape.Idx.first h_S_)).toInt) sliceFits_S512x4x10_S1x4x10) shapeCasts_S1x4x10_S4x10)) : (Proc.devRef .tc main_while0b_v60 : DevRef τ sig).ty.Contents (Elt F)) = Cert.ReferenceIdeal.Step.b34 j s := by
  unfold Cert.ReferenceIdeal.Step.b34
  rw [← al_32 h]
  try rfl
set_option maxRecDepth 8192 in
theorem al_35 (h : Holds V0 s j) : (mulf (broadcastInDim S4x10x256 ![0, 1, 2] bcast_S4x10x1_S4x10x256_0_1_2 (broadcastInDim S4x10x1 ![0, 1] bcast_S4x10_S4x10x1_0_1 (shapeCast S4x10 (Host.dynamicSlice S1x4x10 (V0 (Proc.devRef .tc main_v38_4)) (fun k => (((![V0 (Proc.devRef .tc main_v38_5), constantI S_ 32 0#32, constantI S_ 32 0#32] : Fin 3 → (⟨S_, .i32⟩ : BufTy).Contents (Elt F))) k (Shape.Idx.first h_S_)).toInt) sliceFits_S512x4x10_S1x4x10) shapeCasts_S1x4x10_S4x10))) (subf (shapeCast S4x10x256 (Host.dynamicSlice S1x4x10x256 (V0 (Proc.devRef .tc main_v38_2)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x256_S1x4x10x256) shapeCasts_S1x4x10x256_S4x10x256) (Host.reduceAdd (mulf (broadcastInDim S4x10x128x256 ![0, 1, 2, 3] bcast_S4x10x128x1_S4x10x128x256_0_1_2_3 (broadcastInDim S4x10x128x1 ![0, 1, 2] bcast_S4x10x128_S4x10x128x1_0_1_2 (res_main_while0b_v46 V0))) (res_main_while0b_v53 V0)) (constant S_ .f32 0x00000000#32) reducesTo_S4x10x128x256_S4x10x256_d2 h_S_)) : (Proc.devRef .tc main_while0b_v61 : DevRef τ sig).ty.Contents (Elt F)) = Cert.ReferenceIdeal.Step.b35 j s := by
  unfold Cert.ReferenceIdeal.Step.b35
  rw [← al_34 h, ← al_33 h]
  try rfl
set_option maxRecDepth 8192 in
theorem al_36 (h : Holds V0 s j) : (broadcastInDim S4x10x128x1 ![0, 1, 2] bcast_S4x10x128_S4x10x128x1_0_1_2 (res_main_while0b_v46 V0) : (Proc.devRef .tc main_while0b_v62 : DevRef τ sig).ty.Contents (Elt F)) = Cert.ReferenceIdeal.Step.b36 j s := by
  unfold Cert.ReferenceIdeal.Step.b36
  rw [← al_9 h]
  try rfl
set_option maxRecDepth 8192 in
theorem al_37 (h : Holds V0 s j) : (broadcastInDim S4x10x1x256 ![0, 1, 3] bcast_S4x10x256_S4x10x1x256_0_1_3 (mulf (broadcastInDim S4x10x256 ![0, 1, 2] bcast_S4x10x1_S4x10x256_0_1_2 (broadcastInDim S4x10x1 ![0, 1] bcast_S4x10_S4x10x1_0_1 (shapeCast S4x10 (Host.dynamicSlice S1x4x10 (V0 (Proc.devRef .tc main_v38_4)) (fun k => (((![V0 (Proc.devRef .tc main_v38_5), constantI S_ 32 0#32, constantI S_ 32 0#32] : Fin 3 → (⟨S_, .i32⟩ : BufTy).Contents (Elt F))) k (Shape.Idx.first h_S_)).toInt) sliceFits_S512x4x10_S1x4x10) shapeCasts_S1x4x10_S4x10))) (subf (shapeCast S4x10x256 (Host.dynamicSlice S1x4x10x256 (V0 (Proc.devRef .tc main_v38_2)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x256_S1x4x10x256) shapeCasts_S1x4x10x256_S4x10x256) (Host.reduceAdd (mulf (broadcastInDim S4x10x128x256 ![0, 1, 2, 3] bcast_S4x10x128x1_S4x10x128x256_0_1_2_3 (broadcastInDim S4x10x128x1 ![0, 1, 2] bcast_S4x10x128_S4x10x128x1_0_1_2 (res_main_while0b_v46 V0))) (res_main_while0b_v53 V0)) (constant S_ .f32 0x00000000#32) reducesTo_S4x10x128x256_S4x10x256_d2 h_S_))) : (Proc.devRef .tc main_while0b_v63 : DevRef τ sig).ty.Contents (Elt F)) = Cert.ReferenceIdeal.Step.b37 j s := by
  unfold Cert.ReferenceIdeal.Step.b37
  rw [← al_35 h]
  try rfl
set_option maxRecDepth 8192 in
theorem al_38 (h : Holds V0 s j) : (broadcastInDim S4x10x128x256 ![0, 1, 2, 3] bcast_S4x10x128x1_S4x10x128x256_0_1_2_3 (broadcastInDim S4x10x128x1 ![0, 1, 2] bcast_S4x10x128_S4x10x128x1_0_1_2 (res_main_while0b_v46 V0)) : (Proc.devRef .tc main_while0b_v64 : DevRef τ sig).ty.Contents (Elt F)) = Cert.ReferenceIdeal.Step.b38 j s := by
  unfold Cert.ReferenceIdeal.Step.b38
  rw [← al_36 h]
  try rfl
set_option maxRecDepth 8192 in
theorem al_39 (h : Holds V0 s j) : (broadcastInDim S4x10x128x256 ![0, 1, 2, 3] bcast_S4x10x1x256_S4x10x128x256_0_1_2_3 (broadcastInDim S4x10x1x256 ![0, 1, 3] bcast_S4x10x256_S4x10x1x256_0_1_3 (mulf (broadcastInDim S4x10x256 ![0, 1, 2] bcast_S4x10x1_S4x10x256_0_1_2 (broadcastInDim S4x10x1 ![0, 1] bcast_S4x10_S4x10x1_0_1 (shapeCast S4x10 (Host.dynamicSlice S1x4x10 (V0 (Proc.devRef .tc main_v38_4)) (fun k => (((![V0 (Proc.devRef .tc main_v38_5), constantI S_ 32 0#32, constantI S_ 32 0#32] : Fin 3 → (⟨S_, .i32⟩ : BufTy).Contents (Elt F))) k (Shape.Idx.first h_S_)).toInt) sliceFits_S512x4x10_S1x4x10) shapeCasts_S1x4x10_S4x10))) (subf (shapeCast S4x10x256 (Host.dynamicSlice S1x4x10x256 (V0 (Proc.devRef .tc main_v38_2)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x256_S1x4x10x256) shapeCasts_S1x4x10x256_S4x10x256) (Host.reduceAdd (mulf (broadcastInDim S4x10x128x256 ![0, 1, 2, 3] bcast_S4x10x128x1_S4x10x128x256_0_1_2_3 (broadcastInDim S4x10x128x1 ![0, 1, 2] bcast_S4x10x128_S4x10x128x1_0_1_2 (res_main_while0b_v46 V0))) (res_main_while0b_v53 V0)) (constant S_ .f32 0x00000000#32) reducesTo_S4x10x128x256_S4x10x256_d2 h_S_)))) : (Proc.devRef .tc main_while0b_v65 : DevRef τ sig).ty.Contents (Elt F)) = Cert.ReferenceIdeal.Step.b39 j s := by
  unfold Cert.ReferenceIdeal.Step.b39
  rw [← al_37 h]
  try rfl
set_option maxRecDepth 8192 in
theorem al_40 (h : Holds V0 s j) : (mulf (broadcastInDim S4x10x128x256 ![0, 1, 2, 3] bcast_S4x10x128x1_S4x10x128x256_0_1_2_3 (broadcastInDim S4x10x128x1 ![0, 1, 2] bcast_S4x10x128_S4x10x128x1_0_1_2 (res_main_while0b_v46 V0))) (broadcastInDim S4x10x128x256 ![0, 1, 2, 3] bcast_S4x10x1x256_S4x10x128x256_0_1_2_3 (broadcastInDim S4x10x1x256 ![0, 1, 3] bcast_S4x10x256_S4x10x1x256_0_1_3 (mulf (broadcastInDim S4x10x256 ![0, 1, 2] bcast_S4x10x1_S4x10x256_0_1_2 (broadcastInDim S4x10x1 ![0, 1] bcast_S4x10_S4x10x1_0_1 (shapeCast S4x10 (Host.dynamicSlice S1x4x10 (V0 (Proc.devRef .tc main_v38_4)) (fun k => (((![V0 (Proc.devRef .tc main_v38_5), constantI S_ 32 0#32, constantI S_ 32 0#32] : Fin 3 → (⟨S_, .i32⟩ : BufTy).Contents (Elt F))) k (Shape.Idx.first h_S_)).toInt) sliceFits_S512x4x10_S1x4x10) shapeCasts_S1x4x10_S4x10))) (subf (shapeCast S4x10x256 (Host.dynamicSlice S1x4x10x256 (V0 (Proc.devRef .tc main_v38_2)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x256_S1x4x10x256) shapeCasts_S1x4x10x256_S4x10x256) (Host.reduceAdd (mulf (broadcastInDim S4x10x128x256 ![0, 1, 2, 3] bcast_S4x10x128x1_S4x10x128x256_0_1_2_3 (broadcastInDim S4x10x128x1 ![0, 1, 2] bcast_S4x10x128_S4x10x128x1_0_1_2 (res_main_while0b_v46 V0))) (res_main_while0b_v53 V0)) (constant S_ .f32 0x00000000#32) reducesTo_S4x10x128x256_S4x10x256_d2 h_S_))))) : (Proc.devRef .tc main_while0b_v66 : DevRef τ sig).ty.Contents (Elt F)) = Cert.ReferenceIdeal.Step.b40 j s := by
  unfold Cert.ReferenceIdeal.Step.b40
  rw [← al_38 h, ← al_39 h]
  try rfl
set_option maxRecDepth 8192 in
theorem al_41 (h : Holds V0 s j) : (res_main_while0b_v67 V0 : (Proc.devRef .tc main_while0b_v67 : DevRef τ sig).ty.Contents (Elt F)) = Cert.ReferenceIdeal.Step.b41 j s := by
  unfold res_main_while0b_v67 Cert.ReferenceIdeal.Step.b41
  rw [← al_26 h, ← al_40 h]
  try rfl
set_option maxRecDepth 8192 in
theorem al_42 (h : Holds V0 s j) : (broadcastInDim S4x10x128x1 ![0, 1, 2] bcast_S4x10x128_S4x10x128x1_0_1_2 (shapeCast S4x10x128 (Host.dynamicSlice S1x4x10x128 (V0 (Proc.devRef .tc main_v38_0)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x128_S1x4x10x128) shapeCasts_S1x4x10x128_S4x10x128) : (Proc.devRef .tc main_while0b_v68 : DevRef τ sig).ty.Contents (Elt F)) = Cert.ReferenceIdeal.Step.b42 j s := by
  unfold Cert.ReferenceIdeal.Step.b42
  rw [← al_4 h]
  try rfl
set_option maxRecDepth 8192 in
theorem al_43 (h : Holds V0 s j) : (broadcastInDim S4x10x128x256 ![0, 1, 2, 3] bcast_S4x10x128x1_S4x10x128x256_0_1_2_3 (broadcastInDim S4x10x128x1 ![0, 1, 2] bcast_S4x10x128_S4x10x128x1_0_1_2 (shapeCast S4x10x128 (Host.dynamicSlice S1x4x10x128 (V0 (Proc.devRef .tc main_v38_0)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x128_S1x4x10x128) shapeCasts_S1x4x10x128_S4x10x128)) : (Proc.devRef .tc main_while0b_v69 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (mulf (broadcastInDim S4x10x128x256 ![0, 1, 2, 3] bcast_S4x10x128x1_S4x10x128x256_0_1_2_3 (broadcastInDim S4x10x128x1 ![0, 1, 2] bcast_S4x10x128_S4x10x128x1_0_1_2 (shapeCast S4x10x128 (Host.dynamicSlice S1x4x10x128 (V0 (Proc.devRef .tc main_v38_0)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x128_S1x4x10x128) shapeCasts_S1x4x10x128_S4x10x128))) (res_main_while0b_v67 V0) : (Proc.devRef .tc main_while0b_v70 : DevRef τ sig).ty.Contents (Elt F)) = Cert.ReferenceIdeal.Step.b44 j s := by
  unfold Cert.ReferenceIdeal.Step.b44
  rw [← al_43 h, ← al_41 h]
  try rfl
set_option maxRecDepth 8192 in
theorem al_45 (h : Holds V0 s j) : (constant S_ .f32 0x00000000#32 : (Proc.devRef .tc main_while0b_cst_15 : DevRef τ sig).ty.Contents (Elt F)) = Cert.ReferenceIdeal.Step.b45 j s := by
  unfold Cert.ReferenceIdeal.Step.b45
  rfl
set_option maxRecDepth 8192 in
theorem al_46 (h : Holds V0 s j) : (Host.reduceAdd (mulf (broadcastInDim S4x10x128x256 ![0, 1, 2, 3] bcast_S4x10x128x1_S4x10x128x256_0_1_2_3 (broadcastInDim S4x10x128x1 ![0, 1, 2] bcast_S4x10x128_S4x10x128x1_0_1_2 (shapeCast S4x10x128 (Host.dynamicSlice S1x4x10x128 (V0 (Proc.devRef .tc main_v38_0)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x128_S1x4x10x128) shapeCasts_S1x4x10x128_S4x10x128))) (res_main_while0b_v67 V0)) (constant S_ .f32 0x00000000#32) reducesTo_S4x10x128x256_S4x10x256_d2 h_S_ : (Proc.devRef .tc main_while0b_v71 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (broadcastInDim S1x4x10x256 ![1, 2, 3] bcast_S4x10x256_S1x4x10x256_1_2_3 (Host.reduceAdd (mulf (broadcastInDim S4x10x128x256 ![0, 1, 2, 3] bcast_S4x10x128x1_S4x10x128x256_0_1_2_3 (broadcastInDim S4x10x128x1 ![0, 1, 2] bcast_S4x10x128_S4x10x128x1_0_1_2 (shapeCast S4x10x128 (Host.dynamicSlice S1x4x10x128 (V0 (Proc.devRef .tc main_v38_0)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x128_S1x4x10x128) shapeCasts_S1x4x10x128_S4x10x128))) (res_main_while0b_v67 V0)) (constant S_ .f32 0x00000000#32) reducesTo_S4x10x128x256_S4x10x256_d2 h_S_) : (Proc.devRef .tc main_while0b_call5_v0 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (constantI S_ 32 0#32 : (Proc.devRef .tc main_while0b_call5_c : DevRef τ sig).ty.Contents (Elt F)) = Cert.ReferenceIdeal.Step.b48 j s := by
  unfold Cert.ReferenceIdeal.Step.b48
  rfl
set_option maxRecDepth 8192 in
theorem al_49 (h : Holds V0 s j) : (constantI S_ 32 0#32 : (Proc.devRef .tc main_while0b_call5_c_0 : DevRef τ sig).ty.Contents (Elt F)) = Cert.ReferenceIdeal.Step.b49 j s := by
  unfold Cert.ReferenceIdeal.Step.b49
  rfl
set_option maxRecDepth 8192 in
theorem al_50 (h : Holds V0 s j) : (constantI S_ 32 0#32 : (Proc.devRef .tc main_while0b_call5_c_1 : DevRef τ sig).ty.Contents (Elt F)) = Cert.ReferenceIdeal.Step.b50 j s := by
  unfold Cert.ReferenceIdeal.Step.b50
  rfl
set_option maxRecDepth 8192 in
theorem al_51 (h : Holds V0 s j) : (Host.dynamicUpdateSlice (V0 (Proc.devRef .tc main_v38_7)) (broadcastInDim S1x4x10x256 ![1, 2, 3] bcast_S4x10x256_S1x4x10x256_1_2_3 (Host.reduceAdd (mulf (broadcastInDim S4x10x128x256 ![0, 1, 2, 3] bcast_S4x10x128x1_S4x10x128x256_0_1_2_3 (broadcastInDim S4x10x128x1 ![0, 1, 2] bcast_S4x10x128_S4x10x128x1_0_1_2 (shapeCast S4x10x128 (Host.dynamicSlice S1x4x10x128 (V0 (Proc.devRef .tc main_v38_0)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x128_S1x4x10x128) shapeCasts_S1x4x10x128_S4x10x128))) (res_main_while0b_v67 V0)) (constant S_ .f32 0x00000000#32) reducesTo_S4x10x128x256_S4x10x256_d2 h_S_)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) updateFits_S512x4x10x256_S1x4x10x256 : (Proc.devRef .tc main_while0b_v72 : DevRef τ sig).ty.Contents (Elt F)) = Cert.ReferenceIdeal.Step.b51 j s := by
  unfold Cert.ReferenceIdeal.Step.b51
  rw [← al_47 h, ← al_48 h, ← al_49 h, ← al_50 h, h.f_7, h.n_5]
  try rfl

/-! One trip's step of the carried values is `step`, field by field; a counter steps to the next number. -/

theorem step_6 (h : Holds V0 s j) : step_main_v38_6 V0 = (step j s).main_v38_6 := by
  unfold step_main_v38_6 Cert.ReferenceIdeal.Step.step
  show id (res_main_while0b_v67 V0) = _
  rw [al_41 h]
  try rfl
theorem step_7 (h : Holds V0 s j) : step_main_v38_7 V0 = (step j s).main_v38_7 := by
  unfold step_main_v38_7 Cert.ReferenceIdeal.Step.step
  show id (Host.dynamicUpdateSlice (V0 (Proc.devRef .tc main_v38_7)) (broadcastInDim S1x4x10x256 ![1, 2, 3] bcast_S4x10x256_S1x4x10x256_1_2_3 (Host.reduceAdd (mulf (broadcastInDim S4x10x128x256 ![0, 1, 2, 3] bcast_S4x10x128x1_S4x10x128x256_0_1_2_3 (broadcastInDim S4x10x128x1 ![0, 1, 2] bcast_S4x10x128_S4x10x128x1_0_1_2 (shapeCast S4x10x128 (Host.dynamicSlice S1x4x10x128 (V0 (Proc.devRef .tc main_v38_0)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) sliceFits_S512x4x10x128_S1x4x10x128) shapeCasts_S1x4x10x128_S4x10x128))) (res_main_while0b_v67 V0)) (constant S_ .f32 0x00000000#32) reducesTo_S4x10x128x256_S4x10x256_d2 h_S_)) (fun k => (((![V0 (Proc.devRef .tc main_v38_5), constantI S_ 32 0#32, constantI S_ 32 0#32, constantI S_ 32 0#32] : Fin 4 → (⟨S_, .i32⟩ : BufTy).Contents (Elt F))) k (Shape.Idx.first h_S_)).toInt) updateFits_S512x4x10x256_S1x4x10x256) = _
  exact al_51 h
theorem step_5 (h : Holds V0 s j) : step_main_v38_5 V0 = constantI S_ 32 (BitVec.ofNat 32 (j + 1)) := by
  unfold step_main_v38_5
  rw [h.n_5]
  funext i
  show BitVec.ofNat 32 j + 1#32 = BitVec.ofNat 32 (j + 1)
  simp only [BitVec.ofNat_add]

set_option maxRecDepth 8192 in
theorem out_main_v40_holds (h : Holds V0 s j) : out_main_v40 V0 = Cert.ReferenceIdeal.Step.R_main_v40 s := by
  unfold out_main_v40 Cert.ReferenceIdeal.Step.R_main_v40
  rw [h.f_7]
  try rfl

set_option maxRecDepth 8192 in
theorem out_main_v41_holds (h : Holds V0 s j) {x_main_v0_3 : (⟨S4x512x10x128, .fp8e4m3⟩ : BufTy).Contents (Elt F)} (h_main_v0_3 : V0 (Proc.devRef .tc main_v0_3) = x_main_v0_3) : out_main_v41 V0 = Cert.ReferenceIdeal.Step.R_main_v41 s x_main_v0_3 := by
  unfold out_main_v41 Cert.ReferenceIdeal.Step.R_main_v41
  rw [h_main_v0_3]
  try rfl

set_option maxRecDepth 8192 in
theorem out_main_v43_holds (h : Holds V0 s j) {x_main_v0_5 : (⟨S4x512x10, .f32⟩ : BufTy).Contents (Elt F)} (h_main_v0_5 : V0 (Proc.devRef .tc main_v0_5) = x_main_v0_5) : out_main_v43 V0 = Cert.ReferenceIdeal.Step.R_main_v43 s x_main_v0_5 := by
  unfold out_main_v43 Cert.ReferenceIdeal.Step.R_main_v43
  rw [h_main_v0_5]
  try rfl

set_option maxRecDepth 8192 in
theorem out_main_v42_holds (h : Holds V0 s j) {x_main_v0_0 : (⟨S4x512x10x128, .fp8e4m3⟩ : BufTy).Contents (Elt F)} (h_main_v0_0 : V0 (Proc.devRef .tc main_v0_0) = x_main_v0_0) : out_main_v42 V0 = Cert.ReferenceIdeal.Step.R_main_v42 s x_main_v0_0 := by
  unfold out_main_v42 Cert.ReferenceIdeal.Step.R_main_v42
  rw [h_main_v0_0]
  try rfl

set_option maxRecDepth 8192 in
theorem out_main_v44_holds (h : Holds V0 s j) {x_main_v0_2 : (⟨S4x512x10, .f32⟩ : BufTy).Contents (Elt F)} (h_main_v0_2 : V0 (Proc.devRef .tc main_v0_2) = x_main_v0_2) : out_main_v44 V0 = Cert.ReferenceIdeal.Step.R_main_v44 s x_main_v0_2 := by
  unfold out_main_v44 Cert.ReferenceIdeal.Step.R_main_v44
  rw [h_main_v0_2]
  try rfl

/-- One trip keeps the valuation holding: `step` of the state, the same set-up values, the next number. -/
theorem holds_step (h : Holds V0 s j) : Holds (STEP V0) (step j s) (j + 1) where
  f_6 := (STEP_main_v38_6 V0).trans (step_6 h)
  f_7 := (STEP_main_v38_7 V0).trans (step_7 h)
  n_5 := (STEP_main_v38_5 V0).trans (step_5 h)
  f_0 := (STEP_main_v38_0 V0).trans h.f_0
  f_1 := (STEP_main_v38_1 V0).trans h.f_1
  f_2 := (STEP_main_v38_2 V0).trans h.f_2
  f_3 := (STEP_main_v38_3 V0).trans h.f_3
  f_4 := (STEP_main_v38_4 V0).trans h.f_4

/-- The state the first trip starts from, of what the loop's entry contents (the frame's `Gen.Went`) holds at `init`'s parameters. -/
abbrev initState (m : (ℓ : Loc nD τ sig) → Buf (Elt F) ℓ) (ρ : Dev nD → PrngReg) (c : Dev nD) : State F :=
  init (Gen.Went m ρ c (Proc.devRef .tc main_arg5)) (Gen.Went m ρ c (Proc.devRef .tc main_arg0)) (Gen.Went m ρ c (Proc.devRef .tc main_arg1)) (Gen.Went m ρ c (Proc.devRef .tc main_arg2)) (Gen.Went m ρ c (Proc.devRef .tc main_arg3)) (Gen.Went m ρ c (Proc.devRef .tc main_arg4)) (Gen.Went m ρ c (Proc.devRef .tc main_v0_5)) (Gen.Went m ρ c (Proc.devRef .tc main_v0_4)) (Gen.Went m ρ c (Proc.devRef .tc main_v0_2)) (Gen.Went m ρ c (Proc.devRef .tc main_v0_1))

variable (m : (ℓ : Loc nD τ sig) → Buf (Elt F) ℓ) (ρ : Dev nD → PrngReg) (c : Dev nD)

set_option maxRecDepth 65536 in
set_option maxHeartbeats 2000000 in
/-- What @main's operations before the loop leave: the set-up values, number 0, the initial state. -/
theorem entry_holds : Holds (Gen.Went m ρ c) (initState m ρ c) 0 := by
  constructor <;> (simp only [Gen.Went, afterL_cons, afterL_nil]; after_results_simp) <;> rfl

/-- Before the `k`-th condition the loop's valuation holds the `k`-th state of any sequence that starts at `initState` and goes
    on by `step`. -/
theorem holds_iter (it : ℕ → State F) (h0 : it 0 = initState m ρ c) (hs : ∀ n, it (n + 1) = step n (it n)) :
    ∀ k, Holds (STEP^[k] (Gen.Went m ρ c)) (it k) k
  | 0 => h0 ▸ entry_holds m ρ c
  | k + 1 => by
    rw [Function.iterate_succ_apply', hs k]
    exact holds_step (holds_iter it h0 hs k)

/-- THE RESULTS as `step` iterated: every weakly fair execution of `ReferenceIdeal` terminates with each result at its field of state
    number 512 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m ρ c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v40) = Cert.ReferenceIdeal.Step.R_main_v40 (it c Gen.nT)
      ∧ r.2.mem ((c.tc : Thread nD τ).loc main_v38_6) = (it c Gen.nT).main_v38_6
      ∧ r.2.mem ((c.tc : Thread nD τ).loc main_v41) = Cert.ReferenceIdeal.Step.R_main_v41 (it c Gen.nT) (Gen.Went m ρ c (Proc.devRef .tc main_v0_3))
      ∧ r.2.mem ((c.tc : Thread nD τ).loc main_v43) = Cert.ReferenceIdeal.Step.R_main_v43 (it c Gen.nT) (Gen.Went m ρ c (Proc.devRef .tc main_v0_5))
      ∧ r.2.mem ((c.tc : Thread nD τ).loc main_v42) = Cert.ReferenceIdeal.Step.R_main_v42 (it c Gen.nT) (Gen.Went m ρ c (Proc.devRef .tc main_v0_0))
      ∧ r.2.mem ((c.tc : Thread nD τ).loc main_v44) = Cert.ReferenceIdeal.Step.R_main_v44 (it c Gen.nT) (Gen.Went m ρ c (Proc.devRef .tc main_v0_2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m ρ c (it c) (h0 c) (hs c) Gen.nT
    ⟨((h c _ (Gen.mem_uc main_v40 (by decide))).trans (final_main_v40 m ρ c)).trans (out_main_v40_holds hk), ((h c _ (Gen.mem_uc main_v38_6 (by decide))).trans (final_main_v38_6 m ρ c)).trans hk.f_6, ((h c _ (Gen.mem_uc main_v41 (by decide))).trans (final_main_v41 m ρ c)).trans (out_main_v41_holds hk (iter_main_v0_3 m ρ c Gen.nT)), ((h c _ (Gen.mem_uc main_v43 (by decide))).trans (final_main_v43 m ρ c)).trans (out_main_v43_holds hk (iter_main_v0_5 m ρ c Gen.nT)), ((h c _ (Gen.mem_uc main_v42 (by decide))).trans (final_main_v42 m ρ c)).trans (out_main_v42_holds hk (iter_main_v0_0 m ρ c Gen.nT)), ((h c _ (Gen.mem_uc main_v44 (by decide))).trans (final_main_v44 m ρ c)).trans (out_main_v44_holds hk (iter_main_v0_2 m ρ c Gen.nT)), (h c _ (Gen.mem_uc main_arg0 (by decide))).trans (Gen.WN_main_arg0 m ρ c), (h c _ (Gen.mem_uc main_arg1 (by decide))).trans (Gen.WN_main_arg1 m ρ c), (h c _ (Gen.mem_uc main_arg2 (by decide))).trans (Gen.WN_main_arg2 m ρ c), (h c _ (Gen.mem_uc main_arg3 (by decide))).trans (Gen.WN_main_arg3 m ρ c), (h c _ (Gen.mem_uc main_arg4 (by decide))).trans (Gen.WN_main_arg4 m ρ c), (h c _ (Gen.mem_uc main_arg5 (by decide))).trans (Gen.WN_main_arg5 m ρ c)⟩) (Gen.run_main m ρ)

end Cert.ReferenceIdeal.Steps

end
-- ==== Proof.RefQuant.lean ====
/-
The reference's quantiser read at a row: its scale and its codes are the row's.
-/
module

public import proofs.«01_k».proof.Proof.Gen.ReferenceIdeal.Skeleton
public import proofs.«01_k».proof.Proof.Row
public import Idealize.ShloMosaic.Lib.Pointwise

@[expose] public section

set_option maxRecDepth 16384

noncomputable section

namespace Cert.ReferenceIdeal.Quant

open Cert.ReferenceIdeal Cert.ReferenceIdeal.Gen Idealize.ShloMosaic Idealize.ShloMosaic.TcCoe
open Cert.Delta (Bounded scl code reach)

theorem drop_at (v : FVec Ideal S4x512x10x1 .f32) (b : Fin 4) (t : Fin 512) (h : Fin 10) :
    shapeCast S4x512x10 v shapeCasts_S4x512x10x1_S4x512x10 (ix3 b t h) = v (ix4 b t h 0) := by pointwise

theorem add_at (v : FVec Ideal S4x512x10 .f32) (b : Fin 4) (t : Fin 512) (h : Fin 10) :
    shapeCast S4x512x10x1 v shapeCasts_S4x512x10_S4x512x10x1 (ix4 b t h 0) = v (ix3 b t h) := by pointwise

theorem wide_at (v : FVec Ideal S4x512x10x1 .f32) (b : Fin 4) (t : Fin 512) (h : Fin 10) (d : Fin 128) :
    broadcastTo S4x512x10x128 v broadcasts_S4x512x10x1_S4x512x10x128 (ix4 b t h d) = v (ix4 b t h 0) := by pointwise

theorem powers_at (v : FVec Ideal S1x1x1x253 .f32) (b : Fin 4) (t : Fin 512) (h : Fin 10) (d : Fin 253) :
    broadcastTo S4x512x10x253 v broadcasts_S1x1x1x253_S4x512x10x253 (ix4 b t h d) = v (ix4 0 0 0 d) := by pointwise

theorem rows_at (v : FVec Ideal S4x512x10x1 .f32) (b : Fin 4) (t : Fin 512) (h : Fin 10) (d : Fin 253) :
    broadcastTo S4x512x10x253 v broadcasts_S4x512x10x1_S4x512x10x253 (ix4 b t h d) = v (ix4 b t h 0) := by pointwise

theorem same_at (v : FVec Ideal S1x1x1x253 .f32) (d : Fin 253) :
    shapeCast S1x1x1x253 v shapeCasts_S1x1x1x253_S1x1x1x253 (ix4 0 0 0 d) = v (ix4 0 0 0 d) := by pointwise

theorem most_at (v : FVec Ideal S4x512x10x128 .f32) (b : Fin 4) (t : Fin 512) (h : Fin 10) :
    multiReduction .maximumf [3] S4x512x10 v 0xFF800000#32 reduces_S4x512x10x128_S4x512x10 (.inl rfl) rfl (ix3 b t h)
      = Finset.fold max (Ideal.ofBits .f32 0xFF800000#32) (fun d : Fin 128 => v (ix4 b t h d)) Finset.univ := by pointwise

theorem least_at (v : FVec Ideal S4x512x10x253 .f32) (b : Fin 4) (t : Fin 512) (h : Fin 10) :
    multiReduction .minimumf [3] S4x512x10 v 0x7F800000#32 reduces_S4x512x10x253_S4x512x10 (.inl rfl) rfl (ix3 b t h)
      = Finset.fold min (Ideal.ofBits .f32 0x7F800000#32) (fun d : Fin 253 => v (ix4 b t h d)) Finset.univ := by pointwise

theorem index_at (d : Fin 253) : iota .tc S1x1x1x253 32 [3] iota_S1x1x1x253_d3_w32 (ix4 0 0 0 d) = BitVec.ofNat 32 d.val := by pointwise

theorem select_lt (a b : EReal) (x y : EReal) : Scalar.select (FloatOps.cmpf (F := Ideal) (φ := .f32) .olt a b) x y = if a < b then x else y := by
  change Scalar.select (BitVec.ofBool (decide (a < b))) x y = _
  by_cases h : a < b
  · rw [decide_eq_true h, if_pos h]; rfl
  · rw [decide_eq_false h, if_neg h]; rfl

theorem select_gt (a b : EReal) (x y : EReal) : Scalar.select (FloatOps.cmpf (F := Ideal) (φ := .f32) .ogt a b) x y = if b < a then x else y := by
  change Scalar.select (BitVec.ofBool (decide (b < a))) x y = _
  by_cases h : b < a
  · rw [decide_eq_true h, if_pos h]; rfl
  · rw [decide_eq_false h, if_neg h]; rfl

/-- The powers of two the reference chooses from. -/
def powers : FVec Ideal S1x1x1x253 .f32 :=
  exp2 (sitofp .f32 (subi (iota .tc S1x1x1x253 32 [3] iota_S1x1x1x253_d3_w32) (broadcast S1x1x1x253 125#32)))

/-- The reference's scale, from a row's largest magnitude over the largest code. -/
def pick (y : FVec Ideal S4x512x10x1 .f32) : FVec Ideal S4x512x10x1 .f32 :=
  select (cmpf .olt y (broadcast S4x512x10x1 (Scalar.ofBits .f32 0x00800000#32))) (broadcast S4x512x10x1 (Scalar.ofBits .f32 0x3F800000#32))
    (shapeCast S4x512x10x1 (multiReduction .minimumf [3] S4x512x10 (select
      (cmpf .ogt (broadcastTo S4x512x10x253 powers broadcasts_S1x1x1x253_S4x512x10x253) (broadcastTo S4x512x10x253 y broadcasts_S4x512x10x1_S4x512x10x253))
      (broadcastTo S4x512x10x253 (shapeCast S1x1x1x253 powers shapeCasts_S1x1x1x253_S1x1x1x253) broadcasts_S1x1x1x253_S4x512x10x253)
      (broadcast S4x512x10x253 (Scalar.ofBits .f32 0x7F800000#32))) 0x7F800000#32 reduces_S4x512x10x253_S4x512x10 (.inl rfl) rfl)
      shapeCasts_S4x512x10_S4x512x10x1)

/-- A row's largest magnitude over the largest code. -/
def most (x : FVec Ideal S4x512x10x128 .bf16) : FVec Ideal S4x512x10x1 .f32 :=
  mulf (shapeCast S4x512x10x1 (multiReduction .maximumf [3] S4x512x10 (absf (k0_pay3 (F := Ideal) x)) 0xFF800000#32
    reduces_S4x512x10x128_S4x512x10 (.inl rfl) rfl) shapeCasts_S4x512x10_S4x512x10x1)
    (broadcast S4x512x10x1 (Scalar.ofBits .f32 0x3B124925#32))

theorem scale_eq (x : FVec Ideal S4x512x10x128 .bf16) : k0_pay4 (F := Ideal) x = pick (most x) := rfl

variable {x : FVec Ideal S4x512x10x128 .bf16} {f : Fin 128 → ℝ} {b : Fin 4} {t : Fin 512} {h : Fin 10}
variable (hx : ∀ d, x (ix4 b t h d) = ((f d : ℝ) : EReal)) (hb : Bounded f)
include hx

theorem most_eq : most x (ix4 b t h 0) = reach f := by
  have h1 : ∀ v : FVec Ideal S4x512x10x1 .f32, mulf v (broadcast S4x512x10x1 (Scalar.ofBits .f32 0x3B124925#32)) (ix4 b t h 0)
    = v (ix4 b t h 0) * Ideal.ofBits .f32 0x3B124925#32 := fun v => rfl
  unfold most
  rw [h1, add_at, most_at]
  unfold reach
  refine congrArg (· * Ideal.ofBits .f32 0x3B124925#32) ?_
  congr 1
  funext d
  rw [← hx d]
  rfl

include hb

theorem scale_at : k0_pay4 (F := Ideal) x (ix4 b t h 0) = (scl f : EReal) := by
  rw [scale_eq, ← Cert.Delta.least_eq hb, ← most_eq hx]
  generalize most x = y
  have h2 : ∀ (u v w z : FVec Ideal S4x512x10x1 .f32), select (cmpf .olt u v) w z (ix4 b t h 0)
    = Scalar.select (FloatOps.cmpf (F := Ideal) (φ := .f32) .olt (u (ix4 b t h 0)) (v (ix4 b t h 0))) (w (ix4 b t h 0)) (z (ix4 b t h 0)) := fun _ _ _ _ => rfl
  have h3 : ∀ (u v w z : FVec Ideal S4x512x10x253 .f32) (d : Fin 253), select (cmpf .ogt u v) w z (ix4 b t h d)
    = Scalar.select (FloatOps.cmpf (F := Ideal) (φ := .f32) .ogt (u (ix4 b t h d)) (v (ix4 b t h d))) (w (ix4 b t h d)) (z (ix4 b t h d)) := fun _ _ _ _ _ => rfl
  have h4 : ∀ d : Fin 253, powers (ix4 0 0 0 d) = FloatOps.exp2 (F := Ideal) (φ := .f32) (FloatOps.sitofp .f32 (IntOp.subi (BitVec.ofNat 32 d.val) 125#32)) := fun d => by
    rw [← index_at d]
    rfl
  unfold pick
  rw [h2, add_at, least_at, select_lt]
  simp only [h3, select_gt, powers_at, rows_at, same_at, h4]
  rw [show broadcast S4x512x10x1 (Scalar.ofBits (F := Ideal) .f32 0x3F800000#32) (ix4 b t h 0) = (1 : EReal) from Idealize.ShloMosaic.Ideal.ofBits_one_f32]
  rfl

theorem codes_at (d : Fin 128) : k0_pay5 (F := Ideal) x (ix4 b t h d) = (code f d : EReal) := by
  have h1 : ∀ (u v : FVec Ideal S4x512x10x128 .f32), truncf (F := Ideal) .fp8e4m3 (minimumf (broadcast S4x512x10x128 (Scalar.ofBits .f32 0x43E00000#32))
      (maximumf (broadcast S4x512x10x128 (Scalar.ofBits .f32 0xC3E00000#32)) (mulf u v))) bitsLt_fp8e4m3_f32 (ix4 b t h d)
    = min (Ideal.ofBits .f32 0x43E00000#32) (max (Ideal.ofBits .f32 0xC3E00000#32) (u (ix4 b t h d) * v (ix4 b t h d))) := fun _ _ => rfl
  have h2 : ∀ v : FVec Ideal S4x512x10x1 .f32, divf (broadcast S4x512x10x1 (Scalar.ofBits (F := Ideal) .f32 0x3F800000#32)) v (ix4 b t h 0)
    = Ideal.div (Ideal.ofBits .f32 0x3F800000#32) (v (ix4 b t h 0)) := fun _ => rfl
  unfold k0_pay5
  rw [h1, wide_at, h2, scale_at hx hb, Idealize.ShloMosaic.Ideal.ofBits_one_f32, Cert.Delta.div_scl]
  exact (congrArg (fun z => min _ (max _ (z * _))) (hx d)).trans (Cert.Delta.code_coe d)

end Cert.ReferenceIdeal.Quant
-- ==== Proof.RefValue.lean ====
/-
The reference's loop over the reals: after `n` trips it holds the state after `n` tokens and the outputs of those tokens.
-/
module

public import proofs.«01_k».proof.Proof.Gen.ReferenceIdeal.Step
public import proofs.«01_k».proof.Proof.Tokens
public import Idealize.ShloMosaic.Lib.Pointwise

@[expose] public section

set_option maxRecDepth 16384

noncomputable section

namespace Cert.ReferenceIdeal.Step

open Cert.ReferenceIdeal Cert.ReferenceIdeal.Gen Idealize.ShloMosaic Idealize.ShloMosaic.TcCoe
open Cert.Delta (Inputs coe_sum code scl rlen dsc tokenNo)

/-! One trip, read at its token. -/

theorem start_eq {j : ℕ} (hj : j < 512) : (BitVec.ofNat 32 j).toInt = (j : ℤ) := by
  rw [BitVec.toInt_eq_toNat_of_lt (by rw [BitVec.toNat_ofNat]; omega), BitVec.toNat_ofNat, Nat.mod_eq_of_lt (by omega)]

section Trip

variable (s : State Ideal) {j : ℕ} (hj : j < 512)

/-- Where the trip's slice of a four axis array starts. -/
def at4 (j : ℕ) : Fin 4 → ℤ := fun k => BitVec.toInt ((![constantI S_ 32 (BitVec.ofNat 32 j), constantI S_ 32 0#32, constantI S_ 32 0#32,
  constantI S_ 32 0#32] : Fin 4 → IVec S_ 32) k (Shape.Idx.first h_S_))

/-- Where the trip's slice of a three axis array starts. -/
def at3 (j : ℕ) : Fin 3 → ℤ := fun k => BitVec.toInt ((![constantI S_ 32 (BitVec.ofNat 32 j), constantI S_ 32 0#32,
  constantI S_ 32 0#32] : Fin 3 → IVec S_ 32) k (Shape.Idx.first h_S_))

include hj

theorem at4_0 : at4 j 0 = (j : ℤ) := start_eq hj
theorem at3_0 : at3 j 0 = (j : ℤ) := start_eq hj

omit hj in
theorem at4_1 : at4 j 1 = ((0 : ℕ) : ℤ) := rfl
omit hj in
theorem at4_2 : at4 j 2 = ((0 : ℕ) : ℤ) := rfl
omit hj in
theorem at4_3 : at4 j 3 = ((0 : ℕ) : ℤ) := rfl
omit hj in
theorem at3_1 : at3 j 1 = ((0 : ℕ) : ℤ) := rfl
omit hj in
theorem at3_2 : at3 j 2 = ((0 : ℕ) : ℤ) := rfl

/-! The starts the slices are clamped to. -/

theorem c128_0 (p : _) : Host.clampedStart S512x4x10x128 S1x4x10x128 p (at4 j) 0 = j :=
  Host.clampedStart_of_le p (at4 j) 0 j (at4_0 hj) (show j + 1 ≤ 512 by omega)
omit hj in
theorem c128_1 (p : _) : Host.clampedStart S512x4x10x128 S1x4x10x128 p (at4 j) 1 = 0 :=
  Host.clampedStart_of_le p (at4 j) 1 0 at4_1 (show 0 + 4 ≤ 4 by omega)
omit hj in
theorem c128_2 (p : _) : Host.clampedStart S512x4x10x128 S1x4x10x128 p (at4 j) 2 = 0 :=
  Host.clampedStart_of_le p (at4 j) 2 0 at4_2 (show 0 + 10 ≤ 10 by omega)
omit hj in
theorem c128_3 (p : _) : Host.clampedStart S512x4x10x128 S1x4x10x128 p (at4 j) 3 = 0 :=
  Host.clampedStart_of_le p (at4 j) 3 0 at4_3 (show 0 + 128 ≤ 128 by omega)
theorem c256_0 (p : _) : Host.clampedStart S512x4x10x256 S1x4x10x256 p (at4 j) 0 = j :=
  Host.clampedStart_of_le p (at4 j) 0 j (at4_0 hj) (show j + 1 ≤ 512 by omega)
omit hj in
theorem c256_1 (p : _) : Host.clampedStart S512x4x10x256 S1x4x10x256 p (at4 j) 1 = 0 :=
  Host.clampedStart_of_le p (at4 j) 1 0 at4_1 (show 0 + 4 ≤ 4 by omega)
omit hj in
theorem c256_2 (p : _) : Host.clampedStart S512x4x10x256 S1x4x10x256 p (at4 j) 2 = 0 :=
  Host.clampedStart_of_le p (at4 j) 2 0 at4_2 (show 0 + 10 ≤ 10 by omega)
omit hj in
theorem c256_3 (p : _) : Host.clampedStart S512x4x10x256 S1x4x10x256 p (at4 j) 3 = 0 :=
  Host.clampedStart_of_le p (at4 j) 3 0 at4_3 (show 0 + 256 ≤ 256 by omega)
theorem c1_0 (p : _) : Host.clampedStart S512x4x10 S1x4x10 p (at3 j) 0 = j :=
  Host.clampedStart_of_le p (at3 j) 0 j (at3_0 hj) (show j + 1 ≤ 512 by omega)
omit hj in
theorem c1_1 (p : _) : Host.clampedStart S512x4x10 S1x4x10 p (at3 j) 1 = 0 :=
  Host.clampedStart_of_le p (at3 j) 1 0 at3_1 (show 0 + 4 ≤ 4 by omega)
omit hj in
theorem c1_2 (p : _) : Host.clampedStart S512x4x10 S1x4x10 p (at3 j) 2 = 0 :=
  Host.clampedStart_of_le p (at3 j) 2 0 at3_2 (show 0 + 10 ≤ 10 by omega)

theorem slice128 (x : S512x4x10x128.Idx → EReal) (b : Fin 4) (h : Fin 10) (d : Fin 128) :
    shapeCast S4x10x128 (Host.dynamicSlice S1x4x10x128 x (at4 j) sliceFits_S512x4x10x128_S1x4x10x128) shapeCasts_S1x4x10x128_S4x10x128
      (ix3 b h d) = x (ix4 ⟨j, hj⟩ b h d) := by
  pointwise
  refine congrArg x ?_
  simp only [c128_0 hj, c128_1, c128_2, c128_3, Nat.zero_add]

theorem slice256 (x : S512x4x10x256.Idx → EReal) (b : Fin 4) (h : Fin 10) (d : Fin 256) :
    shapeCast S4x10x256 (Host.dynamicSlice S1x4x10x256 x (at4 j) sliceFits_S512x4x10x256_S1x4x10x256) shapeCasts_S1x4x10x256_S4x10x256
      (ix3 b h d) = x (ix4 ⟨j, hj⟩ b h d) := by
  pointwise
  refine congrArg x ?_
  simp only [c256_0 hj, c256_1, c256_2, c256_3, Nat.zero_add]

theorem slice1 (x : S512x4x10.Idx → EReal) (b : Fin 4) (h : Fin 10) :
    shapeCast S4x10 (Host.dynamicSlice S1x4x10 x (at3 j) sliceFits_S512x4x10_S1x4x10) shapeCasts_S1x4x10_S4x10
      (ix2 b h) = x (ix3 ⟨j, hj⟩ b h) := by
  pointwise
  refine congrArg x ?_
  simp only [c1_0 hj, c1_1, c1_2, Nat.zero_add]

theorem b4_at (b : Fin 4) (h : Fin 10) (d : Fin 128) : b4 j s (ix3 b h d) = s.main_v38_0 (ix4 ⟨j, hj⟩ b h d) :=
  slice128 hj s.main_v38_0 b h d
theorem b9_at (b : Fin 4) (h : Fin 10) (d : Fin 128) : b9 j s (ix3 b h d) = s.main_v38_1 (ix4 ⟨j, hj⟩ b h d) :=
  slice128 hj s.main_v38_1 b h d
theorem b14_at (b : Fin 4) (h : Fin 10) (w : Fin 256) : b14 j s (ix3 b h w) = s.main_v38_2 (ix4 ⟨j, hj⟩ b h w) :=
  slice256 hj s.main_v38_2 b h w
theorem b18_at (b : Fin 4) (h : Fin 10) : b18 j s (ix2 b h) = s.main_v38_3 (ix3 ⟨j, hj⟩ b h) := slice1 hj s.main_v38_3 b h
theorem b22_at (b : Fin 4) (h : Fin 10) : b22 j s (ix2 b h) = s.main_v38_4 (ix3 ⟨j, hj⟩ b h) := slice1 hj s.main_v38_4 b h

theorem update_at (x : S512x4x10x256.Idx → EReal) (y : S4x10x256.Idx → EReal) (t : Fin 512) (b : Fin 4) (h : Fin 10) (w : Fin 256) :
    Host.dynamicUpdateSlice x (broadcastInDim S1x4x10x256 ![1, 2, 3] bcast_S4x10x256_S1x4x10x256_1_2_3 y) (at4 j)
      updateFits_S512x4x10x256_S1x4x10x256 (ix4 t b h w) = if t.val = j then y (ix3 b h w) else x (ix4 t b h w) := by
  pointwise
  simp only [c256_0 hj, c256_1, c256_2, c256_3, Nat.zero_le,
    and_true, Nat.sub_zero]
  by_cases ht : t.val = j
  · rw [dif_pos (by omega), if_pos ht]
  · rw [dif_neg (by omega), if_neg ht]

theorem b51_at (t : Fin 512) (b : Fin 4) (h : Fin 10) (w : Fin 256) :
    b51 j s (ix4 t b h w) = if t.val = j then b46 j s (ix3 b h w) else s.main_v38_7 (ix4 t b h w) :=
  update_at hj s.main_v38_7 (b46 j s) t b h w

omit hj in
theorem b26_at (b : Fin 4) (h : Fin 10) (d : Fin 128) (w : Fin 256) :
    b26 j s (ix4 b h d w) = Ideal.exp (b18 j s (ix2 b h)) * s.main_v38_6 (ix4 b h d w) := by
  pointwise [b26, b25, b24, b23]
omit hj in
theorem b35_at (b : Fin 4) (h : Fin 10) (w : Fin 256) :
    b35 j s (ix3 b h w) = b22 j s (ix2 b h) * (b14 j s (ix3 b h w) - ∑ x : Fin 128, b9 j s (ix3 b h x) * b26 j s (ix4 b h x w)) := by
  pointwise [b35, b34, b33, b32, b31, b30, b29, b28, b27]
omit hj in
theorem b41_at (b : Fin 4) (h : Fin 10) (d : Fin 128) (w : Fin 256) :
    b41 j s (ix4 b h d w) = b26 j s (ix4 b h d w) + b9 j s (ix3 b h d) * b35 j s (ix3 b h w) := by
  pointwise [b41, b40, b39, b38, b37, b36]
omit hj in
theorem b46_at (b : Fin 4) (h : Fin 10) (w : Fin 256) :
    b46 j s (ix3 b h w) = ∑ x : Fin 128, b4 j s (ix3 b h x) * b41 j s (ix4 b h x w) := by
  pointwise [b46, b45, b44, b43, b42]

end Trip

/-! The trips together. -/

variable (I : Inputs)

/-- The state's constants hold the tokens. -/
structure Holding (s : State Ideal) : Prop where
  q : ∀ t b h d, s.main_v38_0 (ix4 t b h d) = (((I.token b h t.val).q d : ℝ) : EReal)
  k : ∀ t b h d, s.main_v38_1 (ix4 t b h d) = (((I.token b h t.val).k d : ℝ) : EReal)
  v : ∀ t b h w, s.main_v38_2 (ix4 t b h w) = (((I.token b h t.val).v w : ℝ) : EReal)
  g : ∀ t b h, s.main_v38_3 (ix3 t b h) = (((I.token b h t.val).g : ℝ) : EReal)
  b : ∀ t b h, s.main_v38_4 (ix3 t b h) = (((I.token b h t.val).b : ℝ) : EReal)

/-- After `n` trips. -/
structure After (n : ℕ) (s : State Ideal) : Prop extends Holding I s where
  S : ∀ b h d w, s.main_v38_6 (ix4 b h d w) = ((I.stateAt b h n d w : ℝ) : EReal)
  o : ∀ t b h w, t.val < n → s.main_v38_7 (ix4 t b h w) = ((I.outputAt b h t.val w : ℝ) : EReal)

theorem After.step {I : Inputs} {n : ℕ} {s : State Ideal} (H : After I n s) (hn : n < 512) : After I (n + 1) (step n s) := by
  have h26 : ∀ b h d w, b26 n s (ix4 b h d w) = ((Real.exp (I.token b h n).g * I.stateAt b h n d w : ℝ) : EReal) := fun b h d w => by
    rw [b26_at, b18_at s hn, H.g, H.S, Ideal.exp_coe, ← EReal.coe_mul]
  have h35 : ∀ b h w, b35 n s (ix3 b h w) = ((Cert.Delta.fresh (I.token b h n) (I.stateAt b h n) w : ℝ) : EReal) := fun b h w => by
    rw [b35_at, b22_at s hn, b14_at s hn, H.b, H.v]
    simp only [b9_at s hn, H.k, h26, ← EReal.coe_mul, ← coe_sum, ← EReal.coe_sub]
    rfl
  have h41 : ∀ b h d w, b41 n s (ix4 b h d w) = ((I.stateAt b h (n + 1) d w : ℝ) : EReal) := fun b h d w => by
    rw [b41_at, h26, b9_at s hn, H.k, h35, ← EReal.coe_mul, ← EReal.coe_add]
    rfl
  have h46 : ∀ b h w, b46 n s (ix3 b h w) = ((I.outputAt b h n w : ℝ) : EReal) := fun b h w => by
    rw [b46_at]
    simp only [b4_at s hn, H.q, h41, ← EReal.coe_mul, ← coe_sum]
    rfl
  refine { q := H.q, k := H.k, v := H.v, g := H.g, b := H.b, S := h41, o := fun t b h w ht => ?_ }
  refine (b51_at s hn t b h w).trans ?_
  by_cases he : t.val = n
  · rw [if_pos he, h46, he]
  · rw [if_neg he, H.o t b h w (by omega)]

/-- The state number `n` of the iteration. -/
def iter (s : State Ideal) : ℕ → State Ideal
  | 0 => s
  | n + 1 => step n (iter s n)

theorem After.iter {I : Inputs} {s : State Ideal} (H : After I 0 s) : ∀ n, n ≤ 512 → After I n (iter s n)
  | 0, _ => H
  | n + 1, hn => (After.iter H n (by omega)).step (by omega)

/-! What the loop starts from. -/

section Init

variable {I : Inputs}
variable {q k : FVec Ideal S4x512x10x128 .bf16} {v : FVec Ideal S4x512x10x256 .bf16} {g b : FVec Ideal S4x512x10 .f32} {S : FVec Ideal S4x10x128x256 .f32}
variable {ks qs : FVec Ideal S4x512x10 .f32} {kc qc : FVec Ideal S4x512x10x128 .f32}
variable (hq : ∀ b t h d, q (ix4 b t h d) = ((I.q b t h d : ℝ) : EReal)) (hk : ∀ b t h d, k (ix4 b t h d) = ((I.k b t h d : ℝ) : EReal))
variable (hv : ∀ b t h w, v (ix4 b t h w) = ((I.v b t h w : ℝ) : EReal)) (hg : ∀ b t h, g (ix3 b t h) = ((I.g b t h : ℝ) : EReal))
variable (hb : ∀ e t h, b (ix3 e t h) = ((I.b e t h : ℝ) : EReal)) (hS : ∀ b h d w, S (ix4 b h d w) = ((I.S b h d w : ℝ) : EReal))
variable (hkc : ∀ b t h d, kc (ix4 b t h d) = (code (I.k b t h) d : EReal)) (hks : ∀ b t h, ks (ix3 b t h) = (scl (I.k b t h) : EReal))
variable (hqc : ∀ b t h d, qc (ix4 b t h d) = (code (I.q b t h) d : EReal)) (hqs : ∀ b t h, qs (ix3 b t h) = (scl (I.q b t h) : EReal))

theorem len_k_at (e : Fin 4) (t : Fin 512) (h : Fin 10) (f : Fin 128 → ℝ) (hf : ∀ d, k (ix4 e t h d) = ((f d : ℝ) : EReal)) :
    A_main_v8 (F := Ideal) q k v g b ks kc qs qc (ix3 e t h) = (rlen f : EReal) := by
  pointwise [A_main_v8, K_main_v7, K_main_cst_1, A_main_v6, A_main_v5, K_main_v4, K_main_cst_0, A_main_v3, K_main_cst, A_main_v2, A_main_v1]
  simp only [hf]
  exact Cert.Delta.div_sqrt_eq

theorem len_q_at (e : Fin 4) (t : Fin 512) (h : Fin 10) (f : Fin 128 → ℝ) (hf : ∀ d, q (ix4 e t h d) = ((f d : ℝ) : EReal)) :
    A_main_v22 (F := Ideal) q k v g b ks kc qs qc (ix3 e t h) = (rlen f : EReal) := by
  pointwise [A_main_v22, K_main_v21, K_main_cst_4, A_main_v20, A_main_v19, K_main_v18, K_main_cst_3, A_main_v17, K_main_cst_2, A_main_v16, A_main_v15]
  simp only [hf]
  exact Cert.Delta.div_sqrt_eq

include hq hk hv hg hb hS hkc hks hqc hqs in
theorem init_after : After I 0 (init (F := Ideal) S q k v g b ks kc qs qc) where
  q t e h d := by
    change A_main_v32 (F := Ideal) q k v g b ks kc qs qc (ix4 t e h d) = _
    pointwise [A_main_v32, A_main_v30, K_main_v29, K_main_cst_5, A_main_v28, A_main_v27, A_main_v26, A_main_v25, A_main_v24, A_main_v23]
    rw [len_q_at e t h _ (hq e t h), hqc, hqs, Cert.Delta.ofBits_dsc, ← EReal.coe_mul, ← EReal.coe_mul, ← EReal.coe_mul]
    refine congrArg Real.toEReal ?_
    simp only [Inputs.token, Cert.Delta.tokenNo_eq]
    ring
  k t e h d := by
    change A_main_v33 (F := Ideal) q k v g b ks kc qs qc (ix4 t e h d) = _
    pointwise [A_main_v33, A_main_v14, A_main_v13, A_main_v12, A_main_v11, A_main_v10, A_main_v9]
    rw [len_k_at e t h _ (hk e t h), hkc, hks, ← EReal.coe_mul, ← EReal.coe_mul]
    refine congrArg Real.toEReal ?_
    simp only [Inputs.token, Cert.Delta.tokenNo_eq]
    ring
  v t e h w := by
    change A_main_v34 (F := Ideal) q k v g b ks kc qs qc (ix4 t e h w) = _
    pointwise [A_main_v34, A_main_v31]
    rw [hv]
    simp only [Inputs.token, Cert.Delta.tokenNo_eq]
  g t e h := by
    change A_main_v35 (F := Ideal) q k v g b ks kc qs qc (ix3 t e h) = _
    pointwise [A_main_v35]
    rw [hg]
    simp only [Inputs.token, Cert.Delta.tokenNo_eq]
  b t e h := by
    change A_main_v36 (F := Ideal) q k v g b ks kc qs qc (ix3 t e h) = _
    pointwise [A_main_v36]
    rw [hb]
    simp only [Inputs.token, Cert.Delta.tokenNo_eq]
  S e h d w := hS e h d w
  o t e h w ht := absurd ht (Nat.not_lt_zero _)

end Init

end Cert.ReferenceIdeal.Step
-- ==== Proof.RefRegion.lean ====
/-
What the reference's quantising region leaves in its arrays, and the loop's result over the reals.
-/
module

public import proofs.«01_k».proof.Proof.Gen.ReferenceIdeal.Run
public import proofs.«01_k».proof.Proof.StepRun
public import proofs.«01_k».proof.Proof.RefQuant
public import proofs.«01_k».proof.Proof.RefValue
public import Idealize.ShloMosaic.Lib.Pipeline.ValueKit

@[expose] public section

set_option maxRecDepth 16384

noncomputable section

namespace Cert.ReferenceIdeal.Region

open Cert.ReferenceIdeal Cert.ReferenceIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b)) (c : Dev nD)

theorem zero4 : (![0, 0, 0, 0] : Fin 4 → ℕ) = fun _ => 0 := funext fun a => by fin_cases a <;> rfl
theorem zero3 : (![0, 0, 0] : Fin 3 → ℕ) = fun _ => 0 := funext fun a => by fin_cases a <;> rfl

/-- The one block of a window is its array. -/
theorem idx0 : ∀ t : Fin cfg0.N, win0_0.index t = ![0, 0, 0, 0] := (by decide +kernel : ∀ t : Fin grid0.N, _)
theorem idx1 : ∀ t : Fin cfg0.N, win0_1.index t = ![0, 0, 0, 0] := (by decide +kernel : ∀ t : Fin grid0.N, _)
theorem idx2 : ∀ t : Fin cfg0.N, win0_2.index t = ![0, 0, 0, 0] := (by decide +kernel : ∀ t : Fin grid0.N, _)
theorem idx3 : ∀ t : Fin cfg0.N, win0_3.index t = ![0, 0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0, 0] := (by decide +kernel : ∀ t : Fin grid0.N, _)
theorem idx6 : ∀ t : Fin cfg0.N, win0_6.index t = ![0, 0, 0, 0] := (by decide +kernel : ∀ t : Fin grid0.N, _)
theorem idx7 : ∀ t : Fin cfg0.N, win0_7.index t = ![0, 0, 0] := (by decide +kernel : ∀ t : Fin grid0.N, _)

theorem block0 (t : Fin cfg0.N) : iblk0 V c 0 t = V c main_arg0 := by
  funext y
  blk_ext [iblk0, idx0 t]

theorem block1 (t : Fin cfg0.N) : iblk0 V c 1 t = V c main_arg1 := by
  funext y
  blk_ext [iblk0, idx1 t]

theorem arr2 : (dat0 V c).arrAt 2 cfg0.N = k0_pay5 (F := F) (V c main_arg0) := by
  refine (dat0 V c).arrAt_eq_of_covers 2 _ (by decide +kernel) fun t hf y => ?_
  blk_simp
  rw [after0_2, block0, block1]
  unfold out0_2
  rw [View.canon_unit_zero zero4, View.ld_unit_zero zero4]
  blk_ext [idx2 t]

theorem arr3 : (dat0 V c).arrAt 3 cfg0.N = k0_pay6 (F := F) (V c main_arg0) := by
  refine (dat0 V c).arrAt_eq_of_covers 3 _ (by decide +kernel) fun t hf y => ?_
  blk_simp
  rw [after0_3, block0, block1]
  unfold out0_3
  rw [View.canon_unit_zero zero4, View.ld_unit_zero zero4]
  blk_ext [idx3 t]

theorem arr4 : (dat0 V c).arrAt 4 cfg0.N = k0_pay7 (k0_pay4 (F := F) (V c main_arg0)) := by
  refine (dat0 V c).arrAt_eq_of_covers 4 _ (by decide +kernel) fun t hf y => ?_
  blk_simp
  rw [after0_4, block0, block1]
  unfold out0_4
  rw [View.canon_unit_zero zero3, View.ld_unit_zero zero4]
  blk_ext [idx4 t]

theorem arr5 : (dat0 V c).arrAt 5 cfg0.N = k0_pay10 (F := F) (V c main_arg1) := by
  refine (dat0 V c).arrAt_eq_of_covers 5 _ (by decide +kernel) fun t hf y => ?_
  blk_simp
  rw [after0_5, block0, block1]
  unfold out0_5 k0_pay11
  rw [View.canon_unit_zero zero4, View.ld_unit_zero zero4]
  blk_ext [idx5 t]

theorem arr6 : (dat0 V c).arrAt 6 cfg0.N = k0_pay1 (k0_pay10 (F := F) (V c main_arg1)) := by
  refine (dat0 V c).arrAt_eq_of_covers 6 _ (by decide +kernel) fun t hf y => ?_
  blk_simp
  rw [after0_6, block0, block1]
  unfold out0_6 k0_pay11
  rw [View.canon_unit_zero zero4, View.ld_unit_zero zero4]
  blk_ext [idx6 t]

theorem arr7 : (dat0 V c).arrAt 7 cfg0.N = k0_pay2 (k0_pay9 (F := F) (V c main_arg1)) := by
  refine (dat0 V c).arrAt_eq_of_covers 7 _ (by decide +kernel) fun t hf y => ?_
  blk_simp
  rw [after0_7, block0, block1]
  unfold out0_7
  rw [View.canon_unit_zero zero3, View.ld_unit_zero zero4]
  blk_ext [idx7 t]

end Cert.ReferenceIdeal.Region
-- ==== Proof.RefResult.lean ====
/-
The reference's six result arrays over the reals.
-/
module

public import proofs.«01_k».proof.Proof.RefRegion

@[expose] public section

set_option maxRecDepth 16384

noncomputable section

namespace Cert.ReferenceIdeal.Result

open Cert.ReferenceIdeal Cert.ReferenceIdeal.Gen Idealize.ShloMosaic Idealize.ShloMosaic.TcCoe Idealize.SL.Sem
open Idealize.ShloMosaic.Pipeline (Dat)
open Cert.Delta (Inputs code scl)

section Entry

variable (m : (ℓ : Loc nD τ sig) → Buf (Elt Ideal) ℓ) (ρ : Dev nD → PrngReg) (c : Dev nD)

/-! What the loop finds: the arguments, and the arrays the region left. -/

theorem went_0 : Went m ρ c (Proc.devRef .tc main_v0_0) = k0_pay5 (F := Ideal) (m ((c : Thread nD τ).loc main_arg0)) :=
  ((W2_of m ρ c main_v0_0 (by decide)).trans (W1_arr m ρ c 2)).trans (Region.arr2 (V0 m ρ) c)
theorem went_1 : Went m ρ c (Proc.devRef .tc main_v0_1) = k0_pay6 (F := Ideal) (m ((c : Thread nD τ).loc main_arg0)) :=
  ((W2_of m ρ c main_v0_1 (by decide)).trans (W1_arr m ρ c 3)).trans (Region.arr3 (V0 m ρ) c)
theorem went_2 : Went m ρ c (Proc.devRef .tc main_v0_2) = k0_pay7 (k0_pay4 (F := Ideal) (m ((c : Thread nD τ).loc main_arg0))) :=
  ((W2_of m ρ c main_v0_2 (by decide)).trans (W1_arr m ρ c 4)).trans (Region.arr4 (V0 m ρ) c)
theorem went_3 : Went m ρ c (Proc.devRef .tc main_v0_3) = k0_pay10 (F := Ideal) (m ((c : Thread nD τ).loc main_arg1)) :=
  ((W2_of m ρ c main_v0_3 (by decide)).trans (W1_arr m ρ c 5)).trans (Region.arr5 (V0 m ρ) c)
theorem went_4 : Went m ρ c (Proc.devRef .tc main_v0_4) = k0_pay1 (k0_pay10 (F := Ideal) (m ((c : Thread nD τ).loc main_arg1))) :=
  ((W2_of m ρ c main_v0_4 (by decide)).trans (W1_arr m ρ c 6)).trans (Region.arr6 (V0 m ρ) c)
theorem went_5 : Went m ρ c (Proc.devRef .tc main_v0_5) = k0_pay2 (k0_pay9 (F := Ideal) (m ((c : Thread nD τ).loc main_arg1))) :=
  ((W2_of m ρ c main_v0_5 (by decide)).trans (W1_arr m ρ c 7)).trans (Region.arr7 (V0 m ρ) c)

theorem went_arg {a : Ref sig .tc} (ha : a ∈ argRefs) : Went m ρ c (Proc.devRef .tc a) = m ((c : Thread nD τ).loc a) := Went_args m ρ c a ha

end Entry

/-! The region's arrays at coordinates. -/

theorem pay7_at (v : FVec Ideal S4x512x10x1 .f32) (b : Fin 4) (t : Fin 512) (h : Fin 10) : k0_pay7 (F := Ideal) v (ix3 b t h) = v (ix4 b t h 0) := by
  pointwise [k0_pay7]

theorem pay2_at (v : FVec Ideal S4x512x10x1 .f32) (b : Fin 4) (t : Fin 512) (h : Fin 10) : k0_pay2 (F := Ideal) v (ix3 b t h) = v (ix4 b t h 0) := by
  pointwise [k0_pay2]

section Codes

variable {x : FVec Ideal S4x512x10x128 .bf16} {f : Fin 4 → Fin 512 → Fin 10 → Fin 128 → ℝ}
variable (hx : ∀ b t h d, x (ix4 b t h d) = ((f b t h d : ℝ) : EReal)) (hf : ∀ b t h, Cert.Delta.Bounded (f b t h))
include hx hf

theorem codes_at (b : Fin 4) (t : Fin 512) (h : Fin 10) (d : Fin 128) : k0_pay5 (F := Ideal) x (ix4 b t h d) = (code (f b t h) d : EReal) :=
  Quant.codes_at (hx b t h) (hf b t h) d

theorem codes_k_at (b : Fin 4) (t : Fin 512) (h : Fin 10) (d : Fin 128) : k0_pay10 (F := Ideal) x (ix4 b t h d) = (code (f b t h) d : EReal) :=
  codes_at hx hf b t h d

theorem wide_at (b : Fin 4) (t : Fin 512) (h : Fin 10) (d : Fin 128) : k0_pay6 (F := Ideal) x (ix4 b t h d) = (code (f b t h) d : EReal) :=
  codes_at hx hf b t h d

theorem wide_k_at (b : Fin 4) (t : Fin 512) (h : Fin 10) (d : Fin 128) : k0_pay1 (k0_pay10 (F := Ideal) x) (ix4 b t h d) = (code (f b t h) d : EReal) :=
  codes_at hx hf b t h d

theorem scales_at (b : Fin 4) (t : Fin 512) (h : Fin 10) : k0_pay7 (k0_pay4 (F := Ideal) x) (ix3 b t h) = (scl (f b t h) : EReal) := by
  rw [pay7_at]
  exact Quant.scale_at (hx b t h) (hf b t h)

theorem scales_k_at (b : Fin 4) (t : Fin 512) (h : Fin 10) : k0_pay2 (k0_pay9 (F := Ideal) x) (ix3 b t h) = (scl (f b t h) : EReal) := by
  rw [pay2_at]
  exact Quant.scale_at (hx b t h) (hf b t h)

end Codes

/-! The results. -/

/-- The outputs. -/
def outArr (I : Inputs) : S4x10x512x256.Idx → Elt Ideal .bf16 := fun y => ((I.outputAt (y 0) (y 1) (y 2).val (y 3) : ℝ) : EReal)
/-- The final states. -/
def stateArr (I : Inputs) : S4x10x128x256.Idx → Elt Ideal .f32 := fun y => ((I.stateAt (y 0) (y 1) 512 (y 2) (y 3) : ℝ) : EReal)
/-- The codes of `x`. -/
def codeArr (x : Fin 4 → Fin 512 → Fin 10 → Fin 128 → ℝ) : S4x10x512x128.Idx → Elt Ideal .fp8e4m3 := fun y => (code (x (y 0) (y 2) (y 1)) (y 3) : EReal)
/-- The scales of `x`. -/
def scaleArr (x : Fin 4 → Fin 512 → Fin 10 → Fin 128 → ℝ) : S10x4x512.Idx → Elt Ideal .f32 := fun y => (scl (x (y 1) (y 2) (y 0)) : EReal)

variable {I : Inputs}

theorem out_eq {s : Step.State Ideal} (H : Step.After I 512 s) : Step.R_main_v40 s = outArr I := by
  funext y
  rw [eq_ix4 (n0 := 4) (n1 := 10) (n2 := 512) (n3 := 256) y]
  generalize y 0 = b, y 1 = h, y 2 = t, y 3 = w
  pointwise [Step.R_main_v40]
  exact H.o t b h w t.isLt

theorem state_eq {s : Step.State Ideal} (H : Step.After I 512 s) : s.main_v38_6 = stateArr I := by
  funext y
  rw [eq_ix4 (n0 := 4) (n1 := 10) (n2 := 128) (n3 := 256) y]
  exact H.S _ _ _ _

theorem codes_eq {x : FVec Ideal S4x512x10x128 .fp8e4m3} {f : Fin 4 → Fin 512 → Fin 10 → Fin 128 → ℝ}
    (hx : ∀ b t h d, x (ix4 b t h d) = (code (f b t h) d : EReal)) (s : Step.State Ideal) : Step.R_main_v41 s x = codeArr f := by
  funext y
  rw [eq_ix4 (n0 := 4) (n1 := 10) (n2 := 512) (n3 := 128) y]
  generalize y 0 = b, y 1 = h, y 2 = t, y 3 = w
  pointwise [Step.R_main_v41]
  exact hx b t h w

theorem scales_eq {x : FVec Ideal S4x512x10 .f32} {f : Fin 4 → Fin 512 → Fin 10 → Fin 128 → ℝ}
    (hx : ∀ b t h, x (ix3 b t h) = (scl (f b t h) : EReal)) (s : Step.State Ideal) : Step.R_main_v43 s x = scaleArr f := by
  funext y
  rw [eq_ix3 (n0 := 10) (n1 := 4) (n2 := 512) y]
  generalize y 0 = h, y 1 = b, y 2 = t
  pointwise [Step.R_main_v43]
  exact hx b t h

section Run

variable (m : (ℓ : Loc nD τ sig) → Buf (Elt Ideal) ℓ) (ρ : Dev nD → PrngReg)

/-- The arguments on core `c` are the arrays of `I`. -/
structure Given (I : Inputs) (c : Dev nD) : Prop where
  q : ∀ b t h d, m ((c : Thread nD τ).loc main_arg0) (ix4 b t h d) = ((I.q b t h d : ℝ) : EReal)
  k : ∀ b t h d, m ((c : Thread nD τ).loc main_arg1) (ix4 b t h d) = ((I.k b t h d : ℝ) : EReal)
  v : ∀ b t h w, m ((c : Thread nD τ).loc main_arg2) (ix4 b t h w) = ((I.v b t h w : ℝ) : EReal)
  g : ∀ b t h, m ((c : Thread nD τ).loc main_arg3) (ix3 b t h) = ((I.g b t h : ℝ) : EReal)
  b : ∀ e t h, m ((c : Thread nD τ).loc main_arg4) (ix3 e t h) = ((I.b e t h : ℝ) : EReal)
  S : ∀ b h d w, m ((c : Thread nD τ).loc main_arg5) (ix4 b h d w) = ((I.S b h d w : ℝ) : EReal)

variable {m}

theorem last {c : Dev nD} (G : Given m I c) : Step.After I 512 (Step.iter (Steps.initState m ρ c) 512) := by
  refine Step.After.iter ?_ 512 (le_refl 512)
  have a0 := went_arg m ρ c (a := main_arg0) (by decide)
  have a1 := went_arg m ρ c (a := main_arg1) (by decide)
  have a2 := went_arg m ρ c (a := main_arg2) (by decide)
  have a3 := went_arg m ρ c (a := main_arg3) (by decide)
  have a4 := went_arg m ρ c (a := main_arg4) (by decide)
  have a5 := went_arg m ρ c (a := main_arg5) (by decide)
  refine Step.init_after ?_ ?_ ?_ ?_ ?_ ?_ ?_ ?_ ?_ ?_
  · rw [a0]; exact G.q
  · rw [a1]; exact G.k
  · rw [a2]; exact G.v
  · rw [a3]; exact G.g
  · rw [a4]; exact G.b
  · rw [a5]; exact G.S
  · rw [went_4]; exact wide_k_at G.k I.kb
  · rw [went_5]; exact scales_k_at G.k I.kb
  · rw [went_1]; exact wide_at G.q I.qb
  · rw [went_2]; exact scales_at G.q I.qb

/-- The run, its results named. -/
theorem run {J : Dev nD → Inputs} (G : ∀ c, Given m (J c) c) :
    θ_run (defs (F := Ideal)) (onTc (τ := τ) (main (F := Ideal))) ⟨m, fun _ => 0, ρ⟩ fun r => ∀ c : Dev nD,
      r.2.mem ((c.tc : Thread nD τ).loc main_v40) = outArr (J c)
      ∧ r.2.mem ((c.tc : Thread nD τ).loc main_v38_6) = stateArr (J c)
      ∧ r.2.mem ((c.tc : Thread nD τ).loc main_v41) = codeArr (J c).k
      ∧ r.2.mem ((c.tc : Thread nD τ).loc main_v43) = scaleArr (J c).k
      ∧ r.2.mem ((c.tc : Thread nD τ).loc main_v42) = codeArr (J c).q
      ∧ r.2.mem ((c.tc : Thread nD τ).loc main_v44) = scaleArr (J c).q
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun r hr c => ?_)
    (Steps.run_iter m ρ (fun c n => Step.iter (Steps.initState m ρ c) n) (fun _ => rfl) (fun _ _ => rfl))
  obtain ⟨r0, r1, r2, r3, r4, r5, ra⟩ := hr c
  have H := last ρ (G c)
  refine ⟨r0.trans (out_eq H), r1.trans (state_eq H), r2.trans ?_, r3.trans ?_, r4.trans ?_, r5.trans ?_, ra⟩
  · rw [went_3]; exact codes_eq (codes_k_at (G c).k (J c).kb) (Step.iter (Steps.initState m ρ c) nT)
  · rw [went_5]; exact scales_eq (scales_k_at (G c).k (J c).kb) (Step.iter (Steps.initState m ρ c) nT)
  · rw [went_0]; exact codes_eq (codes_at (G c).q (J c).qb) (Step.iter (Steps.initState m ρ c) nT)
  · rw [went_2]; exact scales_eq (scales_at (G c).q (J c).qb) (Step.iter (Steps.initState m ρ c) nT)

end Run

end Cert.ReferenceIdeal.Result
-- ==== Proof.Algebraic.lean ====
/-
The kernel and the reference end with the same six arrays.
-/
module

public import proofs.«01_k».proof.Proof.Finite
public import proofs.«01_k».proof.Proof.Arrays
public import proofs.«01_k».proof.Proof.RefResult

@[expose] public section

noncomputable section

namespace Cert.Proof

open Idealize.ShloMosaic Idealize.ShloMosaic.TcCoe Idealize.SL.Sem

theorem algebraic : Cert.algebraic_KernelIdeal_ReferenceIdeal_pre_finite := by
  intro m g m' g' hp ha
  let J := fun c => Cert.Pre_finite.inputs (hp c)
  refine ⟨fun c => Cert.KernelIdeal.Arrays.outArr (J c), fun c => Cert.KernelIdeal.Arrays.stateArr (J c),
    fun c => Cert.KernelIdeal.Arrays.codeArr (J c).k, fun c => Cert.KernelIdeal.Arrays.scaleArr (J c).k,
    fun c => Cert.KernelIdeal.Arrays.codeArr (J c).q, fun c => Cert.KernelIdeal.Arrays.scaleArr (J c).q, ?_, ?_⟩
  · refine (θ_run _ _ _).mono (fun r h c => ?_) (Cert.KernelIdeal.Value.run_blocks m g)
    obtain ⟨r0, r1, r2, r3, r4, r5, ra⟩ := h c
    have hq := Cert.Pre_finite.q_eq (hp c)
    have hk := Cert.Pre_finite.k_eq (hp c)
    have hv := Cert.Pre_finite.v_eq (hp c)
    have hg := Cert.Pre_finite.g_eq (hp c)
    have hb := Cert.Pre_finite.b_eq (hp c)
    have hS := Cert.Pre_finite.S_eq (hp c)
    exact ⟨r0.trans (Cert.KernelIdeal.Arrays.arr6 m c hq hk hv hg hb hS), r1.trans (Cert.KernelIdeal.Arrays.arr7 m c hk hv hg hb hS),
      r2.trans (Cert.KernelIdeal.Arrays.arr8 m c hk), r3.trans (Cert.KernelIdeal.Arrays.arr9 m c hk),
      r4.trans (Cert.KernelIdeal.Arrays.arr10 m c hq), r5.trans (Cert.KernelIdeal.Arrays.arr11 m c hq), ra⟩
  · refine Cert.ReferenceIdeal.Result.run g' (J := J) fun c => ?_
    obtain ⟨a0, a1, a2, a3, a4, a5⟩ := ha c
    exact ⟨fun b t h d => (congrFun a0 _).trans (Cert.Pre_finite.q_eq (hp c) b t h d),
      fun b t h d => (congrFun a1 _).trans (Cert.Pre_finite.k_eq (hp c) b t h d),
      fun b t h w => (congrFun a2 _).trans (Cert.Pre_finite.v_eq (hp c) b t h w),
      fun b t h => (congrFun a3 _).trans (Cert.Pre_finite.g_eq (hp c) b t h),
      fun b t h => (congrFun a4 _).trans (Cert.Pre_finite.b_eq (hp c) b t h),
      fun b h d w => (congrFun a5 _).trans (Cert.Pre_finite.S_eq (hp c) b h d w)⟩

end Cert.Proof
-- ==== Proof.lean ====
/-
The certificate: the frames of the three programs, and the equation of the kernel and the recurrence.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.ReferenceIdeal.Frame
public import proofs.«01_k».proof.Proof.Gen.Pre_finite
public import proofs.«01_k».proof.Proof.Algebraic

@[expose] public section

/-- Every claim: termination without fault with the arguments unchanged, and equal results over the extended reals. -/
theorem Cert.Proof.claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial, Cert.Proof.algebraic⟩
